-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0))).1 = (fun _ => 1#1)
    ∧ (Cert.Pre_regular.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0))).1 = (fun _ => 1#1)
    ∧ (Cert.Pre_regular.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v251) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S2x1x4x512x512 : Shape := ⟨5, ![2, 1, 4, 512, 512]⟩
abbrev S3x3 : Shape := ⟨2, ![3, 3]⟩
abbrev S2x1x1x512x512 : Shape := ⟨5, ![2, 1, 1, 512, 512]⟩
abbrev S2x1x6x512x512 : Shape := ⟨5, ![2, 1, 6, 512, 512]⟩
abbrev S2x1x6x1x512 : Shape := ⟨5, ![2, 1, 6, 1, 512]⟩
abbrev S2x1x6x514x512 : Shape := ⟨5, ![2, 1, 6, 514, 512]⟩
abbrev S2x1x6x514x1 : Shape := ⟨5, ![2, 1, 6, 514, 1]⟩
abbrev S2x1x6x514x514 : Shape := ⟨5, ![2, 1, 6, 514, 514]⟩
abbrev S_ : Shape := ⟨0, ![]⟩
abbrev S1x1 : Shape := ⟨2, ![1, 1]⟩

class Facts : Prop where
  slices_S2x1x4x512x512_S2x1x1x512x512_0_0_0_0_0 : S2x1x4x512x512.Slices ![0, 0, 0, 0, 0] S2x1x1x512x512
  slices_S2x1x4x512x512_S2x1x1x512x512_0_0_3_0_0 : S2x1x4x512x512.Slices ![0, 0, 3, 0, 0] S2x1x1x512x512
  concatenates_S2x1x1x512x512_S2x1x4x512x512_S2x1x1x512x512_S2x1x6x512x512_d2 : Shape.Concatenates [S2x1x1x512x512, S2x1x4x512x512, S2x1x1x512x512] S2x1x6x512x512 2
  slices_S2x1x6x512x512_S2x1x6x1x512_0_0_0_0_0 : S2x1x6x512x512.Slices ![0, 0, 0, 0, 0] S2x1x6x1x512
  slices_S2x1x6x512x512_S2x1x6x1x512_0_0_0_511_0 : S2x1x6x512x512.Slices ![0, 0, 0, 511, 0] S2x1x6x1x512
  concatenates_S2x1x6x1x512_S2x1x6x512x512_S2x1x6x1x512_S2x1x6x514x512_d3 : Shape.Concatenates [S2x1x6x1x512, S2x1x6x512x512, S2x1x6x1x512] S2x1x6x514x512 3
  slices_S2x1x6x514x512_S2x1x6x514x1_0_0_0_0_0 : S2x1x6x514x512.Slices ![0, 0, 0, 0, 0] S2x1x6x514x1
  slices_S2x1x6x514x512_S2x1x6x514x1_0_0_0_0_511 : S2x1x6x514x512.Slices ![0, 0, 0, 0, 511] S2x1x6x514x1
  concatenates_S2x1x6x514x1_S2x1x6x514x512_S2x1x6x514x1_S2x1x6x514x514_d4 : Shape.Concatenates [S2x1x6x514x1, S2x1x6x514x512, S2x1x6x514x1] S2x1x6x514x514 4
  slices_S2x1x6x514x514_S2x1x4x512x512_0_0_1_1_2 : S2x1x6x514x514.Slices ![0, 0, 1, 1, 2] S2x1x4x512x512
  slices_S2x1x6x514x514_S2x1x4x512x512_0_0_1_1_0 : S2x1x6x514x514.Slices ![0, 0, 1, 1, 0] S2x1x4x512x512
  bcast_S_S2x1x4x512x512 : S_.BroadcastsInDim S2x1x4x512x512 (![] : Fin 0 → Fin S2x1x4x512x512.rank)
  slices_S2x1x6x514x514_S2x1x4x512x512_0_0_1_2_1 : S2x1x6x514x514.Slices ![0, 0, 1, 2, 1] S2x1x4x512x512
  slices_S2x1x6x514x514_S2x1x4x512x512_0_0_1_0_1 : S2x1x6x514x514.Slices ![0, 0, 1, 0, 1] S2x1x4x512x512
  slices_S2x1x6x514x514_S2x1x4x512x512_0_0_2_1_1 : S2x1x6x514x514.Slices ![0, 0, 2, 1, 1] S2x1x4x512x512
  slices_S2x1x6x514x514_S2x1x4x512x512_0_0_0_1_1 : S2x1x6x514x514.Slices ![0, 0, 0, 1, 1] S2x1x4x512x512
  slices_S2x1x6x514x514_S2x1x4x512x512_0_0_1_2_2 : S2x1x6x514x514.Slices ![0, 0, 1, 2, 2] S2x1x4x512x512
  slices_S2x1x6x514x514_S2x1x4x512x512_0_0_1_2_0 : S2x1x6x514x514.Slices ![0, 0, 1, 2, 0] S2x1x4x512x512
  slices_S2x1x6x514x514_S2x1x4x512x512_0_0_1_0_2 : S2x1x6x514x514.Slices ![0, 0, 1, 0, 2] S2x1x4x512x512
  slices_S2x1x6x514x514_S2x1x4x512x512_0_0_1_0_0 : S2x1x6x514x514.Slices ![0, 0, 1, 0, 0] S2x1x4x512x512
  slices_S2x1x6x514x514_S2x1x4x512x512_0_0_2_2_1 : S2x1x6x514x514.Slices ![0, 0, 2, 2, 1] S2x1x4x512x512
  slices_S2x1x6x514x514_S2x1x4x512x512_0_0_2_0_1 : S2x1x6x514x514.Slices ![0, 0, 2, 0, 1] S2x1x4x512x512
  slices_S2x1x6x514x514_S2x1x4x512x512_0_0_0_2_1 : S2x1x6x514x514.Slices ![0, 0, 0, 2, 1] S2x1x4x512x512
  slices_S2x1x6x514x514_S2x1x4x512x512_0_0_0_0_1 : S2x1x6x514x514.Slices ![0, 0, 0, 0, 1] S2x1x4x512x512
  slices_S2x1x6x514x514_S2x1x4x512x512_0_0_2_1_2 : S2x1x6x514x514.Slices ![0, 0, 2, 1, 2] S2x1x4x512x512
  slices_S2x1x6x514x514_S2x1x4x512x512_0_0_2_1_0 : S2x1x6x514x514.Slices ![0, 0, 2, 1, 0] S2x1x4x512x512
  slices_S2x1x6x514x514_S2x1x4x512x512_0_0_0_1_2 : S2x1x6x514x514.Slices ![0, 0, 0, 1, 2] S2x1x4x512x512
  slices_S2x1x6x514x514_S2x1x4x512x512_0_0_0_1_0 : S2x1x6x514x514.Slices ![0, 0, 0, 1, 0] S2x1x4x512x512
  bcast_S_S3x3 : S_.BroadcastsInDim S3x3 (![] : Fin 0 → Fin S3x3.rank)
  slices_S3x3_S1x1_0_0 : S3x3.Slices ![0, 0] S1x1
  shapeCasts_S1x1_S_ : S1x1.ShapeCasts S_
  slices_S3x3_S1x1_0_1 : S3x3.Slices ![0, 1] S1x1
  slices_S3x3_S1x1_0_2 : S3x3.Slices ![0, 2] S1x1
  slices_S3x3_S1x1_1_0 : S3x3.Slices ![1, 0] S1x1
  slices_S3x3_S1x1_1_1 : S3x3.Slices ![1, 1] S1x1
  slices_S3x3_S1x1_1_2 : S3x3.Slices ![1, 2] S1x1
  slices_S3x3_S1x1_2_0 : S3x3.Slices ![2, 0] S1x1
  slices_S3x3_S1x1_2_1 : S3x3.Slices ![2, 1] S1x1
  slices_S3x3_S1x1_2_2 : S3x3.Slices ![2, 2] S1x1
  pads_S2x1x4x512x512_S2x1x6x514x514_000_000_110_110_110 : S2x1x4x512x512.Pads (![0, 0, 1, 1, 1] : Fin 5 → Nat) ![0, 0, 1, 1, 1] ![0, 0, 0, 0, 0] S2x1x6x514x514
  h_S_ : 0 < S_.numel
  slices_S2x1x6x514x514_S2x1x4x512x512_0_0_0_0_0 : S2x1x6x514x514.Slices ![0, 0, 0, 0, 0] S2x1x4x512x512
  slices_S2x1x6x514x514_S2x1x4x512x512_0_0_0_0_2 : S2x1x6x514x514.Slices ![0, 0, 0, 0, 2] S2x1x4x512x512
  slices_S2x1x6x514x514_S2x1x4x512x512_0_0_0_2_0 : S2x1x6x514x514.Slices ![0, 0, 0, 2, 0] S2x1x4x512x512
  slices_S2x1x6x514x514_S2x1x4x512x512_0_0_0_2_2 : S2x1x6x514x514.Slices ![0, 0, 0, 2, 2] S2x1x4x512x512
  slices_S2x1x6x514x514_S2x1x4x512x512_0_0_2_0_0 : S2x1x6x514x514.Slices ![0, 0, 2, 0, 0] S2x1x4x512x512
  slices_S2x1x6x514x514_S2x1x4x512x512_0_0_2_0_2 : S2x1x6x514x514.Slices ![0, 0, 2, 0, 2] S2x1x4x512x512
  slices_S2x1x6x514x514_S2x1x4x512x512_0_0_2_2_0 : S2x1x6x514x514.Slices ![0, 0, 2, 2, 0] S2x1x4x512x512
  slices_S2x1x6x514x514_S2x1x4x512x512_0_0_2_2_2 : S2x1x6x514x514.Slices ![0, 0, 2, 2, 2] S2x1x4x512x512

variable [Facts]

noncomputable abbrev lit0 : Fin 9 → BitVec 32 := fun
  | 0 => 0x3EF33944#32 | 1 => 0x3D935910#32 | 2 => 0x3E3E2FA0#32 | 3 => 0x3EEB1134#32 | 4 => 0x3F396292#32 | 5 => 0x3F1C8336#32 | 6 => 0x3C11D980#32 | 7 => 0x3E4DDB80#32
  | 8 => 0x3F5C98E2#32
  | _ => 0#32

def fn_part7 {F : FTy → Type} [FloatOps F] (main_arg0 : FVec F S2x1x4x512x512 .f32) (main_v118 : IVec S2x1x4x512x512 1) (main_v120 : IVec S2x1x4x512x512 1) (main_v121 : FVec F S2x1x6x514x514 .f32) (main_v152 : FVec F S2x1x4x512x512 .f32) (main_v153 : FVec F S2x1x4x512x512 .f32) : IVec S2x1x4x512x512 1 × IVec S2x1x4x512x512 1 :=
  let main_v154 : FVec F S2x1x4x512x512 .f32 := maximumf main_v152 main_v153
  let main_v155 : FVec F S2x1x4x512x512 .f32 := (extractStridedSlice S2x1x4x512x512 ![0, 0, 1, 2, 2] · slices_S2x1x6x514x514_S2x1x4x512x512_0_0_1_2_2) main_v121
  let main_v156 : FVec F S2x1x4x512x512 .f32 := maximumf main_v154 main_v155
  let main_v157 : FVec F S2x1x4x512x512 .f32 := (extractStridedSlice S2x1x4x512x512 ![0, 0, 2, 0, 0] · slices_S2x1x6x514x514_S2x1x4x512x512_0_0_2_0_0) main_v121
  let main_v158 : FVec F S2x1x4x512x512 .f32 := maximumf main_v156 main_v157
  let main_v159 : FVec F S2x1x4x512x512 .f32 := (extractStridedSlice S2x1x4x512x512 ![0, 0, 2, 0, 1] · slices_S2x1x6x514x514_S2x1x4x512x512_0_0_2_0_1) main_v121
  let main_v160 : FVec F S2x1x4x512x512 .f32 := maximumf main_v158 main_v159
  let main_v161 : FVec F S2x1x4x512x512 .f32 := (extractStridedSlice S2x1x4x512x512 ![0, 0, 2, 0, 2] · slices_S2x1x6x514x514_S2x1x4x512x512_0_0_2_0_2) main_v121
  let main_v162 : FVec F S2x1x4x512x512 .f32 := maximumf main_v160 main_v161
  let main_v163 : FVec F S2x1x4x512x512 .f32 := (extractStridedSlice S2x1x4x512x512 ![0, 0, 2, 1, 0] · slices_S2x1x6x514x514_S2x1x4x512x512_0_0_2_1_0) main_v121
  let main_v164 : FVec F S2x1x4x512x512 .f32 := maximumf main_v162 main_v163
  let main_v165 : FVec F S2x1x4x512x512 .f32 := (extractStridedSlice S2x1x4x512x512 ![0, 0, 2, 1, 1] · slices_S2x1x6x514x514_S2x1x4x512x512_0_0_2_1_1) main_v121
  let main_v166 : FVec F S2x1x4x512x512 .f32 := maximumf main_v164 main_v165
  let main_v167 : FVec F S2x1x4x512x512 .f32 := (extractStridedSlice S2x1x4x512x512 ![0, 0, 2, 1, 2] · slices_S2x1x6x514x514_S2x1x4x512x512_0_0_2_1_2) main_v121
  let main_v168 : FVec F S2x1x4x512x512 .f32 := maximumf main_v166 main_v167
  let main_v169 : FVec F S2x1x4x512x512 .f32 := (extractStridedSlice S2x1x4x512x512 ![0, 0, 2, 2, 0] · slices_S2x1x6x514x514_S2x1x4x512x512_0_0_2_2_0) main_v121
  let main_v170 : FVec F S2x1x4x512x512 .f32 := maximumf main_v168 main_v169
  let main_v171 : FVec F S2x1x4x512x512 .f32 := (extractStridedSlice S2x1x4x512x512 ![0, 0, 2, 2, 1] · slices_S2x1x6x514x514_S2x1x4x512x512_0_0_2_2_1) main_v121
  let main_v172 : FVec F S2x1x4x512x512 .f32 := maximumf main_v170 main_v171
  let main_v173 : FVec F S2x1x4x512x512 .f32 := (extractStridedSlice S2x1x4x512x512 ![0, 0, 2, 2, 2] · slices_S2x1x6x514x514_S2x1x4x512x512_0_0_2_2_2) main_v121
  let main_v174 : FVec F S2x1x4x512x512 .f32 := maximumf main_v172 main_v173
  let main_v175 : IVec S2x1x4x512x512 1 := cmpf .ogt main_arg0 main_v174
  let main_v176 : IVec S2x1x4x512x512 1 := noti main_v175
  let main_v177 : IVec S2x1x4x512x512 1 := ori main_v120 main_v176
  (main_v118, main_v177)

def fn_part6 {F : FTy → Type} [FloatOps F] (main_arg0 : FVec F S2x1x4x512x512 .f32) (main_v118 : IVec S2x1x4x512x512 1) (main_v120 : IVec S2x1x4x512x512 1) (main_v121 : FVec F S2x1x6x514x514 .f32) (main_v128 : FVec F S2x1x4x512x512 .f32) (main_v129 : FVec F S2x1x4x512x512 .f32) : IVec S2x1x4x512x512 1 × IVec S2x1x4x512x512 1 :=
  let main_v130 : FVec F S2x1x4x512x512 .f32 := maximumf main_v128 main_v129
  let main_v131 : FVec F S2x1x4x512x512 .f32 := (extractStridedSlice S2x1x4x512x512 ![0, 0, 0, 1, 1] · slices_S2x1x6x514x514_S2x1x4x512x512_0_0_0_1_1) main_v121
  let main_v132 : FVec F S2x1x4x512x512 .f32 := maximumf main_v130 main_v131
  let main_v133 : FVec F S2x1x4x512x512 .f32 := (extractStridedSlice S2x1x4x512x512 ![0, 0, 0, 1, 2] · slices_S2x1x6x514x514_S2x1x4x512x512_0_0_0_1_2) main_v121
  let main_v134 : FVec F S2x1x4x512x512 .f32 := maximumf main_v132 main_v133
  let main_v135 : FVec F S2x1x4x512x512 .f32 := (extractStridedSlice S2x1x4x512x512 ![0, 0, 0, 2, 0] · slices_S2x1x6x514x514_S2x1x4x512x512_0_0_0_2_0) main_v121
  let main_v136 : FVec F S2x1x4x512x512 .f32 := maximumf main_v134 main_v135
  let main_v137 : FVec F S2x1x4x512x512 .f32 := (extractStridedSlice S2x1x4x512x512 ![0, 0, 0, 2, 1] · slices_S2x1x6x514x514_S2x1x4x512x512_0_0_0_2_1) main_v121
  let main_v138 : FVec F S2x1x4x512x512 .f32 := maximumf main_v136 main_v137
  let main_v139 : FVec F S2x1x4x512x512 .f32 := (extractStridedSlice S2x1x4x512x512 ![0, 0, 0, 2, 2] · slices_S2x1x6x514x514_S2x1x4x512x512_0_0_0_2_2) main_v121
  let main_v140 : FVec F S2x1x4x512x512 .f32 := maximumf main_v138 main_v139
  let main_v141 : FVec F S2x1x4x512x512 .f32 := (extractStridedSlice S2x1x4x512x512 ![0, 0, 1, 0, 0] · slices_S2x1x6x514x514_S2x1x4x512x512_0_0_1_0_0) main_v121
  let main_v142 : FVec F S2x1x4x512x512 .f32 := maximumf main_v140 main_v141
  let main_v143 : FVec F S2x1x4x512x512 .f32 := (extractStridedSlice S2x1x4x512x512 ![0, 0, 1, 0, 1] · slices_S2x1x6x514x514_S2x1x4x512x512_0_0_1_0_1) main_v121
  let main_v144 : FVec F S2x1x4x512x512 .f32 := maximumf main_v142 main_v143
  let main_v145 : FVec F S2x1x4x512x512 .f32 := (extractStridedSlice S2x1x4x512x512 ![0, 0, 1, 0, 2] · slices_S2x1x6x514x514_S2x1x4x512x512_0_0_1_0_2) main_v121
  let main_v146 : FVec F S2x1x4x512x512 .f32 := maximumf main_v144 main_v145
  let main_v147 : FVec F S2x1x4x512x512 .f32 := (extractStridedSlice S2x1x4x512x512 ![0, 0, 1, 1, 0] · slices_S2x1x6x514x514_S2x1x4x512x512_0_0_1_1_0) main_v121
  let main_v148 : FVec F S2x1x4x512x512 .f32 := maximumf main_v146 main_v147
  let main_v149 : FVec F S2x1x4x512x512 .f32 := (extractStridedSlice S2x1x4x512x512 ![0, 0, 1, 1, 2] · slices_S2x1x6x514x514_S2x1x4x512x512_0_0_1_1_2) main_v121
  let main_v150 : FVec F S2x1x4x512x512 .f32 := maximumf main_v148 main_v149
  let main_v151 : FVec F S2x1x4x512x512 .f32 := (extractStridedSlice S2x1x4x512x512 ![0, 0, 1, 2, 0] · slices_S2x1x6x514x514_S2x1x4x512x512_0_0_1_2_0) main_v121
  let main_v152 : FVec F S2x1x4x512x512 .f32 := maximumf main_v150 main_v151
  let main_v153 : FVec F S2x1x4x512x512 .f32 := (extractStridedSlice S2x1x4x512x512 ![0, 0, 1, 2, 1] · slices_S2x1x6x514x514_S2x1x4x512x512_0_0_1_2_1) main_v121
  fn_part7 (F := F) main_arg0 main_v118 main_v120 main_v121 main_v152 main_v153

def fn_part5 {F : FTy → Type} [FloatOps F] (main_arg0 : FVec F S2x1x4x512x512 .f32) (main_v77 : FVec F S2x1x4x512x512 .f32) (main_v81 : FVec F S2x1x4x512x512 .f32) (main_v85 : FVec F S2x1x4x512x512 .f32) (main_v93 : FVec F S2x1x4x512x512 .f32) (main_v97 : FVec F S2x1x4x512x512 .f32) (main_v105 : FVec F S2x1x4x512x512 .f32) (main_v109 : FVec F S2x1x4x512x512 .f32) : IVec S2x1x4x512x512 1 × IVec S2x1x4x512x512 1 :=
  let main_v110 : FVec F S2x1x4x512x512 .f32 := subf main_v105 main_v109
  let main_v111 : FVec F S2x1x4x512x512 .f32 := mulf main_v81 main_v97
  let main_v112 : FVec F S2x1x4x512x512 .f32 := mulf main_v85 main_v93
  let main_v113 : FVec F S2x1x4x512x512 .f32 := subf main_v111 main_v112
  let main_v114 : FVec F S2x1x4x512x512 .f32 := mulf main_v77 main_v113
  let main_v115 : FVec F S2x1x4x512x512 .f32 := addf main_v110 main_v114
  let main_v116 : FVec F S2x1x4x512x512 .f32 := Host.absf main_arg0
  let main_cst_9 : FVec F S_ .f32 := constant S_ .f32 0x7F800000#32
  let main_v117 : FVec F S2x1x4x512x512 .f32 := broadcastInDim S2x1x4x512x512 ![] bcast_S_S2x1x4x512x512 main_cst_9
  let main_v118 : IVec S2x1x4x512x512 1 := cmpf .olt main_v116 main_v117
  let main_cst_10 : FVec F S_ .f32 := constant S_ .f32 0x00000000#32
  let main_v119 : FVec F S2x1x4x512x512 .f32 := broadcastInDim S2x1x4x512x512 ![] bcast_S_S2x1x4x512x512 main_cst_10
  let main_v120 : IVec S2x1x4x512x512 1 := cmpf .une main_v115 main_v119
  let main_cst_11 : FVec F S_ .f32 := constant S_ .f32 0xFF800000#32
  let main_v121 : FVec F S2x1x6x514x514 .f32 := (fun x v => pad S2x1x6x514x514 ![0, 0, 1, 1, 1] ![0, 0, 1, 1, 1] ![0, 0, 0, 0, 0] x v pads_S2x1x4x512x512_S2x1x6x514x514_000_000_110_110_110 h_S_) main_arg0 main_cst_11
  let main_cst_12 : FVec F S_ .f32 := constant S_ .f32 0xFF800000#32
  let main_v122 : FVec F S2x1x4x512x512 .f32 := broadcastInDim S2x1x4x512x512 ![] bcast_S_S2x1x4x512x512 main_cst_12
  let main_v123 : FVec F S2x1x4x512x512 .f32 := (extractStridedSlice S2x1x4x512x512 ![0, 0, 0, 0, 0] · slices_S2x1x6x514x514_S2x1x4x512x512_0_0_0_0_0) main_v121
  let main_v124 : FVec F S2x1x4x512x512 .f32 := maximumf main_v122 main_v123
  let main_v125 : FVec F S2x1x4x512x512 .f32 := (extractStridedSlice S2x1x4x512x512 ![0, 0, 0, 0, 1] · slices_S2x1x6x514x514_S2x1x4x512x512_0_0_0_0_1) main_v121
  let main_v126 : FVec F S2x1x4x512x512 .f32 := maximumf main_v124 main_v125
  let main_v127 : FVec F S2x1x4x512x512 .f32 := (extractStridedSlice S2x1x4x512x512 ![0, 0, 0, 0, 2] · slices_S2x1x6x514x514_S2x1x4x512x512_0_0_0_0_2) main_v121
  let main_v128 : FVec F S2x1x4x512x512 .f32 := maximumf main_v126 main_v127
  let main_v129 : FVec F S2x1x4x512x512 .f32 := (extractStridedSlice S2x1x4x512x512 ![0, 0, 0, 1, 0] · slices_S2x1x6x514x514_S2x1x4x512x512_0_0_0_1_0) main_v121
  fn_part6 (F := F) main_arg0 main_v118 main_v120 main_v121 main_v128 main_v129

def fn_part4 {F : FTy → Type} [FloatOps F] (main_arg0 : FVec F S2x1x4x512x512 .f32) (main_v35 : FVec F S2x1x4x512x512 .f32) (main_v44 : FVec F S2x1x4x512x512 .f32) (main_v62 : FVec F S2x1x4x512x512 .f32) (main_v65 : FVec F S3x3 .f32) (main_v69 : FVec F S2x1x4x512x512 .f32) (main_v73 : FVec F S2x1x4x512x512 .f32) (main_v77 : FVec F S2x1x4x512x512 .f32) (main_v81 : FVec F S2x1x4x512x512 .f32) (main_v85 : FVec F S2x1x4x512x512 .f32) : IVec S2x1x4x512x512 1 × IVec S2x1x4x512x512 1 :=
  let main_v86 : FVec F S1x1 .f32 := (extractStridedSlice S1x1 ![1, 2] · slices_S3x3_S1x1_1_2) main_v65
  let main_v87 : FVec F S_ .f32 := shapeCast S_ main_v86 shapeCasts_S1x1_S_
  let main_v88 : FVec F S2x1x4x512x512 .f32 := broadcastInDim S2x1x4x512x512 ![] bcast_S_S2x1x4x512x512 main_v87
  let main_v89 : FVec F S2x1x4x512x512 .f32 := addf main_v44 main_v88
  let main_v90 : FVec F S1x1 .f32 := (extractStridedSlice S1x1 ![2, 0] · slices_S3x3_S1x1_2_0) main_v65
  let main_v91 : FVec F S_ .f32 := shapeCast S_ main_v90 shapeCasts_S1x1_S_
  let main_v92 : FVec F S2x1x4x512x512 .f32 := broadcastInDim S2x1x4x512x512 ![] bcast_S_S2x1x4x512x512 main_v91
  let main_v93 : FVec F S2x1x4x512x512 .f32 := addf main_v62 main_v92
  let main_v94 : FVec F S1x1 .f32 := (extractStridedSlice S1x1 ![2, 1] · slices_S3x3_S1x1_2_1) main_v65
  let main_v95 : FVec F S_ .f32 := shapeCast S_ main_v94 shapeCasts_S1x1_S_
  let main_v96 : FVec F S2x1x4x512x512 .f32 := broadcastInDim S2x1x4x512x512 ![] bcast_S_S2x1x4x512x512 main_v95
  let main_v97 : FVec F S2x1x4x512x512 .f32 := addf main_v44 main_v96
  let main_v98 : FVec F S1x1 .f32 := (extractStridedSlice S1x1 ![2, 2] · slices_S3x3_S1x1_2_2) main_v65
  let main_v99 : FVec F S_ .f32 := shapeCast S_ main_v98 shapeCasts_S1x1_S_
  let main_v100 : FVec F S2x1x4x512x512 .f32 := broadcastInDim S2x1x4x512x512 ![] bcast_S_S2x1x4x512x512 main_v99
  let main_v101 : FVec F S2x1x4x512x512 .f32 := addf main_v35 main_v100
  let main_v102 : FVec F S2x1x4x512x512 .f32 := mulf main_v85 main_v101
  let main_v103 : FVec F S2x1x4x512x512 .f32 := mulf main_v89 main_v97
  let main_v104 : FVec F S2x1x4x512x512 .f32 := subf main_v102 main_v103
  let main_v105 : FVec F S2x1x4x512x512 .f32 := mulf main_v69 main_v104
  let main_v106 : FVec F S2x1x4x512x512 .f32 := mulf main_v81 main_v101
  let main_v107 : FVec F S2x1x4x512x512 .f32 := mulf main_v89 main_v93
  let main_v108 : FVec F S2x1x4x512x512 .f32 := subf main_v106 main_v107
  let main_v109 : FVec F S2x1x4x512x512 .f32 := mulf main_v73 main_v108
  fn_part5 (F := F) main_arg0 main_v77 main_v81 main_v85 main_v93 main_v97 main_v105 main_v109

def fn_part3 {F : FTy → Type} [FloatOps F] (main_arg0 : FVec F S2x1x4x512x512 .f32) (main_cst : FVec F S3x3 .f32) (main_v29 : FVec F S2x1x4x512x512 .f32) (main_v35 : FVec F S2x1x4x512x512 .f32) (main_v44 : FVec F S2x1x4x512x512 .f32) (main_v53 : FVec F S2x1x4x512x512 .f32) (main_v62 : FVec F S2x1x4x512x512 .f32) : IVec S2x1x4x512x512 1 × IVec S2x1x4x512x512 1 :=
  let main_v63 : FVec F S3x3 .f32 := Host.absf main_cst
  let main_cst_8 : FVec F S_ .f32 := constant S_ .f32 0x33D6BF95#32
  let main_v64 : FVec F S3x3 .f32 := broadcastInDim S3x3 ![] bcast_S_S3x3 main_cst_8
  let main_v65 : FVec F S3x3 .f32 := mulf main_v63 main_v64
  let main_v66 : FVec F S1x1 .f32 := (extractStridedSlice S1x1 ![0, 0] · slices_S3x3_S1x1_0_0) main_v65
  let main_v67 : FVec F S_ .f32 := shapeCast S_ main_v66 shapeCasts_S1x1_S_
  let main_v68 : FVec F S2x1x4x512x512 .f32 := broadcastInDim S2x1x4x512x512 ![] bcast_S_S2x1x4x512x512 main_v67
  let main_v69 : FVec F S2x1x4x512x512 .f32 := addf main_v35 main_v68
  let main_v70 : FVec F S1x1 .f32 := (extractStridedSlice S1x1 ![0, 1] · slices_S3x3_S1x1_0_1) main_v65
  let main_v71 : FVec F S_ .f32 := shapeCast S_ main_v70 shapeCasts_S1x1_S_
  let main_v72 : FVec F S2x1x4x512x512 .f32 := broadcastInDim S2x1x4x512x512 ![] bcast_S_S2x1x4x512x512 main_v71
  let main_v73 : FVec F S2x1x4x512x512 .f32 := addf main_v53 main_v72
  let main_v74 : FVec F S1x1 .f32 := (extractStridedSlice S1x1 ![0, 2] · slices_S3x3_S1x1_0_2) main_v65
  let main_v75 : FVec F S_ .f32 := shapeCast S_ main_v74 shapeCasts_S1x1_S_
  let main_v76 : FVec F S2x1x4x512x512 .f32 := broadcastInDim S2x1x4x512x512 ![] bcast_S_S2x1x4x512x512 main_v75
  let main_v77 : FVec F S2x1x4x512x512 .f32 := addf main_v62 main_v76
  let main_v78 : FVec F S1x1 .f32 := (extractStridedSlice S1x1 ![1, 0] · slices_S3x3_S1x1_1_0) main_v65
  let main_v79 : FVec F S_ .f32 := shapeCast S_ main_v78 shapeCasts_S1x1_S_
  let main_v80 : FVec F S2x1x4x512x512 .f32 := broadcastInDim S2x1x4x512x512 ![] bcast_S_S2x1x4x512x512 main_v79
  let main_v81 : FVec F S2x1x4x512x512 .f32 := addf main_v53 main_v80
  let main_v82 : FVec F S1x1 .f32 := (extractStridedSlice S1x1 ![1, 1] · slices_S3x3_S1x1_1_1) main_v65
  let main_v83 : FVec F S_ .f32 := shapeCast S_ main_v82 shapeCasts_S1x1_S_
  let main_v84 : FVec F S2x1x4x512x512 .f32 := broadcastInDim S2x1x4x512x512 ![] bcast_S_S2x1x4x512x512 main_v83
  let main_v85 : FVec F S2x1x4x512x512 .f32 := addf main_v29 main_v84
  fn_part4 (F := F) main_arg0 main_v35 main_v44 main_v62 main_v65 main_v69 main_v73 main_v77 main_v81 main_v85

def fn_part2 {F : FTy → Type} [FloatOps F] (main_arg0 : FVec F S2x1x4x512x512 .f32) (main_cst : FVec F S3x3 .f32) (main_v8 : FVec F S2x1x6x514x514 .f32) (main_v29 : FVec F S2x1x4x512x512 .f32) (main_v35 : FVec F S2x1x4x512x512 .f32) (main_v40 : FVec F S2x1x4x512x512 .f32) (main_v41 : FVec F S2x1x4x512x512 .f32) : IVec S2x1x4x512x512 1 × IVec S2x1x4x512x512 1 :=
  let main_v42 : FVec F S2x1x4x512x512 .f32 := addf main_v40 main_v41
  let main_cst_5 : FVec F S_ .f32 := constant S_ .f32 0x3E800000#32
  let main_v43 : FVec F S2x1x4x512x512 .f32 := broadcastInDim S2x1x4x512x512 ![] bcast_S_S2x1x4x512x512 main_cst_5
  let main_v44 : FVec F S2x1x4x512x512 .f32 := mulf main_v43 main_v42
  let main_v45 : FVec F S2x1x4x512x512 .f32 := (extractStridedSlice S2x1x4x512x512 ![0, 0, 2, 2, 1] · slices_S2x1x6x514x514_S2x1x4x512x512_0_0_2_2_1) main_v8
  let main_v46 : FVec F S2x1x4x512x512 .f32 := (extractStridedSlice S2x1x4x512x512 ![0, 0, 2, 0, 1] · slices_S2x1x6x514x514_S2x1x4x512x512_0_0_2_0_1) main_v8
  let main_v47 : FVec F S2x1x4x512x512 .f32 := subf main_v45 main_v46
  let main_v48 : FVec F S2x1x4x512x512 .f32 := (extractStridedSlice S2x1x4x512x512 ![0, 0, 0, 2, 1] · slices_S2x1x6x514x514_S2x1x4x512x512_0_0_0_2_1) main_v8
  let main_v49 : FVec F S2x1x4x512x512 .f32 := subf main_v47 main_v48
  let main_v50 : FVec F S2x1x4x512x512 .f32 := (extractStridedSlice S2x1x4x512x512 ![0, 0, 0, 0, 1] · slices_S2x1x6x514x514_S2x1x4x512x512_0_0_0_0_1) main_v8
  let main_v51 : FVec F S2x1x4x512x512 .f32 := addf main_v49 main_v50
  let main_cst_6 : FVec F S_ .f32 := constant S_ .f32 0x3E800000#32
  let main_v52 : FVec F S2x1x4x512x512 .f32 := broadcastInDim S2x1x4x512x512 ![] bcast_S_S2x1x4x512x512 main_cst_6
  let main_v53 : FVec F S2x1x4x512x512 .f32 := mulf main_v52 main_v51
  let main_v54 : FVec F S2x1x4x512x512 .f32 := (extractStridedSlice S2x1x4x512x512 ![0, 0, 2, 1, 2] · slices_S2x1x6x514x514_S2x1x4x512x512_0_0_2_1_2) main_v8
  let main_v55 : FVec F S2x1x4x512x512 .f32 := (extractStridedSlice S2x1x4x512x512 ![0, 0, 2, 1, 0] · slices_S2x1x6x514x514_S2x1x4x512x512_0_0_2_1_0) main_v8
  let main_v56 : FVec F S2x1x4x512x512 .f32 := subf main_v54 main_v55
  let main_v57 : FVec F S2x1x4x512x512 .f32 := (extractStridedSlice S2x1x4x512x512 ![0, 0, 0, 1, 2] · slices_S2x1x6x514x514_S2x1x4x512x512_0_0_0_1_2) main_v8
  let main_v58 : FVec F S2x1x4x512x512 .f32 := subf main_v56 main_v57
  let main_v59 : FVec F S2x1x4x512x512 .f32 := (extractStridedSlice S2x1x4x512x512 ![0, 0, 0, 1, 0] · slices_S2x1x6x514x514_S2x1x4x512x512_0_0_0_1_0) main_v8
  let main_v60 : FVec F S2x1x4x512x512 .f32 := addf main_v58 main_v59
  let main_cst_7 : FVec F S_ .f32 := constant S_ .f32 0x3E800000#32
  let main_v61 : FVec F S2x1x4x512x512 .f32 := broadcastInDim S2x1x4x512x512 ![] bcast_S_S2x1x4x512x512 main_cst_7
  let main_v62 : FVec F S2x1x4x512x512 .f32 := mulf main_v61 main_v60
  fn_part3 (F := F) main_arg0 main_cst main_v29 main_v35 main_v44 main_v53 main_v62

def fn_part1 {F : FTy → Type} [FloatOps F] (main_arg0 : FVec F S2x1x4x512x512 .f32) (main_cst : FVec F S3x3 .f32) (main_v8 : FVec F S2x1x6x514x514 .f32) (main_v19 : FVec F S2x1x4x512x512 .f32) (main_v20 : FVec F S2x1x4x512x512 .f32) : IVec S2x1x4x512x512 1 × IVec S2x1x4x512x512 1 :=
  let main_v21 : FVec F S2x1x4x512x512 .f32 := subf main_v19 main_v20
  let main_cst_2 : FVec F S_ .f32 := constant S_ .f32 0x3F000000#32
  let main_v22 : FVec F S2x1x4x512x512 .f32 := broadcastInDim S2x1x4x512x512 ![] bcast_S_S2x1x4x512x512 main_cst_2
  let main_v23 : FVec F S2x1x4x512x512 .f32 := mulf main_v22 main_v21
  let main_v24 : FVec F S2x1x4x512x512 .f32 := (extractStridedSlice S2x1x4x512x512 ![0, 0, 1, 2, 1] · slices_S2x1x6x514x514_S2x1x4x512x512_0_0_1_2_1) main_v8
  let main_cst_3 : FVec F S_ .f32 := constant S_ .f32 0x40000000#32
  let main_v25 : FVec F S2x1x4x512x512 .f32 := broadcastInDim S2x1x4x512x512 ![] bcast_S_S2x1x4x512x512 main_cst_3
  let main_v26 : FVec F S2x1x4x512x512 .f32 := mulf main_v25 main_arg0
  let main_v27 : FVec F S2x1x4x512x512 .f32 := subf main_v24 main_v26
  let main_v28 : FVec F S2x1x4x512x512 .f32 := (extractStridedSlice S2x1x4x512x512 ![0, 0, 1, 0, 1] · slices_S2x1x6x514x514_S2x1x4x512x512_0_0_1_0_1) main_v8
  let main_v29 : FVec F S2x1x4x512x512 .f32 := addf main_v27 main_v28
  let main_v30 : FVec F S2x1x4x512x512 .f32 := (extractStridedSlice S2x1x4x512x512 ![0, 0, 2, 1, 1] · slices_S2x1x6x514x514_S2x1x4x512x512_0_0_2_1_1) main_v8
  let main_cst_4 : FVec F S_ .f32 := constant S_ .f32 0x40000000#32
  let main_v31 : FVec F S2x1x4x512x512 .f32 := broadcastInDim S2x1x4x512x512 ![] bcast_S_S2x1x4x512x512 main_cst_4
  let main_v32 : FVec F S2x1x4x512x512 .f32 := mulf main_v31 main_arg0
  let main_v33 : FVec F S2x1x4x512x512 .f32 := subf main_v30 main_v32
  let main_v34 : FVec F S2x1x4x512x512 .f32 := (extractStridedSlice S2x1x4x512x512 ![0, 0, 0, 1, 1] · slices_S2x1x6x514x514_S2x1x4x512x512_0_0_0_1_1) main_v8
  let main_v35 : FVec F S2x1x4x512x512 .f32 := addf main_v33 main_v34
  let main_v36 : FVec F S2x1x4x512x512 .f32 := (extractStridedSlice S2x1x4x512x512 ![0, 0, 1, 2, 2] · slices_S2x1x6x514x514_S2x1x4x512x512_0_0_1_2_2) main_v8
  let main_v37 : FVec F S2x1x4x512x512 .f32 := (extractStridedSlice S2x1x4x512x512 ![0, 0, 1, 2, 0] · slices_S2x1x6x514x514_S2x1x4x512x512_0_0_1_2_0) main_v8
  let main_v38 : FVec F S2x1x4x512x512 .f32 := subf main_v36 main_v37
  let main_v39 : FVec F S2x1x4x512x512 .f32 := (extractStridedSlice S2x1x4x512x512 ![0, 0, 1, 0, 2] · slices_S2x1x6x514x514_S2x1x4x512x512_0_0_1_0_2) main_v8
  let main_v40 : FVec F S2x1x4x512x512 .f32 := subf main_v38 main_v39
  let main_v41 : FVec F S2x1x4x512x512 .f32 := (extractStridedSlice S2x1x4x512x512 ![0, 0, 1, 0, 0] · slices_S2x1x6x514x514_S2x1x4x512x512_0_0_1_0_0) main_v8
  fn_part2 (F := F) main_arg0 main_cst main_v8 main_v29 main_v35 main_v40 main_v41

def fn {F : FTy → Type} [FloatOps F] (main_arg0 : FVec F S2x1x4x512x512 .f32) : IVec S2x1x4x512x512 1 × IVec S2x1x4x512x512 1 :=
  let main_cst : FVec F S3x3 .f32 := fun i => FloatOps.ofBits .f32 (lit0 (S3x3.rowMajor i))
  let main_v0 : FVec F S2x1x1x512x512 .f32 := (extractStridedSlice S2x1x1x512x512 ![0, 0, 0, 0, 0] · slices_S2x1x4x512x512_S2x1x1x512x512_0_0_0_0_0) main_arg0
  let main_v1 : FVec F S2x1x1x512x512 .f32 := (extractStridedSlice S2x1x1x512x512 ![0, 0, 3, 0, 0] · slices_S2x1x4x512x512_S2x1x1x512x512_0_0_3_0_0) main_arg0
  let main_v2 : FVec F S2x1x6x512x512 .f32 := concatenate S2x1x6x512x512 2 [⟨S2x1x1x512x512, main_v0⟩, ⟨S2x1x4x512x512, main_arg0⟩, ⟨S2x1x1x512x512, main_v1⟩] concatenates_S2x1x1x512x512_S2x1x4x512x512_S2x1x1x512x512_S2x1x6x512x512_d2
  let main_v3 : FVec F S2x1x6x1x512 .f32 := (extractStridedSlice S2x1x6x1x512 ![0, 0, 0, 0, 0] · slices_S2x1x6x512x512_S2x1x6x1x512_0_0_0_0_0) main_v2
  let main_v4 : FVec F S2x1x6x1x512 .f32 := (extractStridedSlice S2x1x6x1x512 ![0, 0, 0, 511, 0] · slices_S2x1x6x512x512_S2x1x6x1x512_0_0_0_511_0) main_v2
  let main_v5 : FVec F S2x1x6x514x512 .f32 := concatenate S2x1x6x514x512 3 [⟨S2x1x6x1x512, main_v3⟩, ⟨S2x1x6x512x512, main_v2⟩, ⟨S2x1x6x1x512, main_v4⟩] concatenates_S2x1x6x1x512_S2x1x6x512x512_S2x1x6x1x512_S2x1x6x514x512_d3
  let main_v6 : FVec F S2x1x6x514x1 .f32 := (extractStridedSlice S2x1x6x514x1 ![0, 0, 0, 0, 0] · slices_S2x1x6x514x512_S2x1x6x514x1_0_0_0_0_0) main_v5
  let main_v7 : FVec F S2x1x6x514x1 .f32 := (extractStridedSlice S2x1x6x514x1 ![0, 0, 0, 0, 511] · slices_S2x1x6x514x512_S2x1x6x514x1_0_0_0_0_511) main_v5
  let main_v8 : FVec F S2x1x6x514x514 .f32 := concatenate S2x1x6x514x514 4 [⟨S2x1x6x514x1, main_v6⟩, ⟨S2x1x6x514x512, main_v5⟩, ⟨S2x1x6x514x1, main_v7⟩] concatenates_S2x1x6x514x1_S2x1x6x514x512_S2x1x6x514x1_S2x1x6x514x514_d4
  let main_v9 : FVec F S2x1x4x512x512 .f32 := (extractStridedSlice S2x1x4x512x512 ![0, 0, 1, 1, 2] · slices_S2x1x6x514x514_S2x1x4x512x512_0_0_1_1_2) main_v8
  let main_v10 : FVec F S2x1x4x512x512 .f32 := (extractStridedSlice S2x1x4x512x512 ![0, 0, 1, 1, 0] · slices_S2x1x6x514x514_S2x1x4x512x512_0_0_1_1_0) main_v8
  let main_v11 : FVec F S2x1x4x512x512 .f32 := subf main_v9 main_v10
  let main_cst_0 : FVec F S_ .f32 := constant S_ .f32 0x3F000000#32
  let main_v12 : FVec F S2x1x4x512x512 .f32 := broadcastInDim S2x1x4x512x512 ![] bcast_S_S2x1x4x512x512 main_cst_0
  let main_v13 : FVec F S2x1x4x512x512 .f32 := mulf main_v12 main_v11
  let main_v14 : FVec F S2x1x4x512x512 .f32 := (extractStridedSlice S2x1x4x512x512 ![0, 0, 1, 2, 1] · slices_S2x1x6x514x514_S2x1x4x512x512_0_0_1_2_1) main_v8
  let main_v15 : FVec F S2x1x4x512x512 .f32 := (extractStridedSlice S2x1x4x512x512 ![0, 0, 1, 0, 1] · slices_S2x1x6x514x514_S2x1x4x512x512_0_0_1_0_1) main_v8
  let main_v16 : FVec F S2x1x4x512x512 .f32 := subf main_v14 main_v15
  let main_cst_1 : FVec F S_ .f32 := constant S_ .f32 0x3F000000#32
  let main_v17 : FVec F S2x1x4x512x512 .f32 := broadcastInDim S2x1x4x512x512 ![] bcast_S_S2x1x4x512x512 main_cst_1
  let main_v18 : FVec F S2x1x4x512x512 .f32 := mulf main_v17 main_v16
  let main_v19 : FVec F S2x1x4x512x512 .f32 := (extractStridedSlice S2x1x4x512x512 ![0, 0, 2, 1, 1] · slices_S2x1x6x514x514_S2x1x4x512x512_0_0_2_1_1) main_v8
  let main_v20 : FVec F S2x1x4x512x512 .f32 := (extractStridedSlice S2x1x4x512x512 ![0, 0, 0, 1, 1] · slices_S2x1x6x514x514_S2x1x4x512x512_0_0_0_1_1) main_v8
  fn_part1 (F := F) main_arg0 main_cst main_v8 main_v19 main_v20
-- ==== Kernel.lean ====
abbrev S2x1x4x512x512 : Shape := ⟨5, ![2, 1, 4, 512, 512]⟩
abbrev S3x3 : Shape := ⟨2, ![3, 3]⟩
abbrev S2x4x64x4096 : Shape := ⟨4, ![2, 4, 64, 4096]⟩
abbrev S2x4x512x512 : Shape := ⟨4, ![2, 4, 512, 512]⟩
abbrev S2x4x1x512 : Shape := ⟨4, ![2, 4, 1, 512]⟩
abbrev S2x4x4x512 : Shape := ⟨4, ![2, 4, 4, 512]⟩
abbrev S2x4x3x512 : Shape := ⟨4, ![2, 4, 3, 512]⟩
abbrev S2x4x4x1x512 : Shape := ⟨5, ![2, 4, 4, 1, 512]⟩
abbrev S_ : Shape := ⟨0, ![]⟩
abbrev S2x1x3x4x64x4096 : Shape := ⟨6, ![2, 1, 3, 4, 64, 4096]⟩
abbrev S2x1x4x64x4096 : Shape := ⟨5, ![2, 1, 4, 64, 4096]⟩
abbrev S1x4x16x4096 : Shape := ⟨4, ![1, 4, 16, 4096]⟩
abbrev S1x4x1x1x512 : Shape := ⟨5, ![1, 4, 1, 1, 512]⟩
abbrev S1x1x3x4x16x4096 : Shape := ⟨6, ![1, 1, 3, 4, 16, 4096]⟩
abbrev S1x1x4x16x4096 : Shape := ⟨5, ![1, 1, 4, 16, 4096]⟩
abbrev S1x1 : Shape := ⟨2, ![1, 1]⟩
abbrev S4x16x4096 : Shape := ⟨3, ![4, 16, 4096]⟩
abbrev S4x1x512 : Shape := ⟨3, ![4, 1, 512]⟩
abbrev S4x15x512 : Shape := ⟨3, ![4, 15, 512]⟩
abbrev S4x16x512 : Shape := ⟨3, ![4, 16, 512]⟩
abbrev S4x16x3584 : Shape := ⟨3, ![4, 16, 3584]⟩
abbrev S1x1x4096 : Shape := ⟨3, ![1, 1, 4096]⟩
abbrev S4x16x1 : Shape := ⟨3, ![4, 16, 1]⟩
abbrev S4x16x4095 : Shape := ⟨3, ![4, 16, 4095]⟩
abbrev S1x16x1 : Shape := ⟨3, ![1, 16, 1]⟩
abbrev S1x16x4096 : Shape := ⟨3, ![1, 16, 4096]⟩
abbrev S3x16x4096 : Shape := ⟨3, ![3, 16, 4096]⟩
abbrev S1x1x1x4x16x4096 : Shape := ⟨6, ![1, 1, 1, 4, 16, 4096]⟩
abbrev S2x1x3x4x512x512 : Shape := ⟨6, ![2, 1, 3, 4, 512, 512]⟩

abbrev nBuf : Space → Nat
  | .hbm => 21
  | .vmem => 10
  | .smem => 1
  | _ => 0

abbrev bufTy : (tb : Table) → Fin (tcTables nBuf tb) → BufTy
  | .hbm, ⟨0, _⟩ => ⟨S2x1x4x512x512, .f32⟩
  | .hbm, ⟨1, _⟩ => ⟨S3x3, .f32⟩
  | .hbm, ⟨2, _⟩ => ⟨S2x4x64x4096, .f32⟩
  | .hbm, ⟨3, _⟩ => ⟨S2x4x512x512, .f32⟩
  | .hbm, ⟨4, _⟩ => ⟨S2x4x1x512, .f32⟩
  | .hbm, ⟨5, _⟩ => ⟨S2x4x4x512, .f32⟩
  | .hbm, ⟨6, _⟩ => ⟨S2x4x3x512, .f32⟩
  | .hbm, ⟨7, _⟩ => ⟨S2x4x4x512, .f32⟩
  | .hbm, ⟨8, _⟩ => ⟨S2x4x3x512, .f32⟩
  | .hbm, ⟨9, _⟩ => ⟨S2x4x1x512, .f32⟩
  | .hbm, ⟨10, _⟩ => ⟨S2x4x4x512, .f32⟩
  | .hbm, ⟨11, _⟩ => ⟨S2x4x4x1x512, .f32⟩
  | .hbm, ⟨12, _⟩ => ⟨S2x4x4x1x512, .f32⟩
  | .hbm, ⟨13, _⟩ => ⟨S3x3, .f32⟩
  | .hbm, ⟨14, _⟩ => ⟨S_, .f32⟩
  | .hbm, ⟨15, _⟩ => ⟨S3x3, .f32⟩
  | .hbm, ⟨16, _⟩ => ⟨S3x3, .f32⟩
  | .hbm, ⟨17, _⟩ => ⟨S2x1x3x4x64x4096, .f32⟩
  | .hbm, ⟨18, _⟩ => ⟨S2x1x4x64x4096, .f32⟩
  | .hbm, ⟨19, _⟩ => ⟨S2x1x3x4x512x512, .f32⟩
  | .hbm, ⟨20, _⟩ => ⟨S2x1x4x512x512, .f32⟩
  | .local _ .vmem, ⟨0, _⟩ => ⟨S1x4x16x4096, .f32⟩
  | .local _ .vmem, ⟨1, _⟩ => ⟨S1x4x16x4096, .f32⟩
  | .local _ .vmem, ⟨2, _⟩ => ⟨S1x4x1x1x512, .f32⟩
  | .local _ .vmem, ⟨3, _⟩ => ⟨S1x4x1x1x512, .f32⟩
  | .local _ .vmem, ⟨4, _⟩ => ⟨S1x4x1x1x512, .f32⟩
  | .local _ .vmem, ⟨5, _⟩ => ⟨S1x4x1x1x512, .f32⟩
  | .local _ .vmem, ⟨6, _⟩ => ⟨S1x1x3x4x16x4096, .f32⟩
  | .local _ .vmem, ⟨7, _⟩ => ⟨S1x1x3x4x16x4096, .f32⟩
  | .local _ .vmem, ⟨8, _⟩ => ⟨S1x1x4x16x4096, .f32⟩
  | .local _ .vmem, ⟨9, _⟩ => ⟨S1x1x4x16x4096, .f32⟩
  | .local _ .smem, ⟨0, _⟩ => ⟨S3x3, .f32⟩
  | _, _ => ⟨S2x1x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x4x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x3x4x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x1x4x512x512 : Shape := ⟨5, ![2, 1, 4, 512, 512]⟩
abbrev S3x3 : Shape := ⟨2, ![3, 3]⟩
abbrev S2x1x1x512x512 : Shape := ⟨5, ![2, 1, 1, 512, 512]⟩
abbrev S2x1x6x512x512 : Shape := ⟨5, ![2, 1, 6, 512, 512]⟩
abbrev S2x1x6x1x512 : Shape := ⟨5, ![2, 1, 6, 1, 512]⟩
abbrev S2x1x6x514x512 : Shape := ⟨5, ![2, 1, 6, 514, 512]⟩
abbrev S2x1x6x514x1 : Shape := ⟨5, ![2, 1, 6, 514, 1]⟩
abbrev S2x1x6x514x514 : Shape := ⟨5, ![2, 1, 6, 514, 514]⟩
abbrev S_ : Shape := ⟨0, ![]⟩
abbrev S1x1 : Shape := ⟨2, ![1, 1]⟩
abbrev S4 : Shape := ⟨1, ![4]⟩
abbrev S512 : Shape := ⟨1, ![512]⟩
abbrev S4x512x512 : Shape := ⟨3, ![4, 512, 512]⟩
abbrev S1x4x512x512 : Shape := ⟨4, ![1, 4, 512, 512]⟩
abbrev S3x4x512x512 : Shape := ⟨4, ![3, 4, 512, 512]⟩
abbrev S2x1x1x4x512x512 : Shape := ⟨6, ![2, 1, 1, 4, 512, 512]⟩
abbrev S2x1x3x4x512x512 : Shape := ⟨6, ![2, 1, 3, 4, 512, 512]⟩
abbrev S1x1x3x4x512x512 : Shape := ⟨6, ![1, 1, 3, 4, 512, 512]⟩

abbrev nBuf : Space → Nat
  | .hbm => 294
  | .vmem => 0
  | .smem => 0
  | _ => 0

abbrev hbmTy0_0 (i : Nat) : BufTy := match i % 128 with
  | 0 => ⟨S2x1x4x512x512, .f32⟩
  | 1 => ⟨S3x3, .f32⟩
  | 2 => ⟨S2x1x1x512x512, .f32⟩
  | 3 => ⟨S2x1x1x512x512, .f32⟩
  | 4 => ⟨S2x1x6x512x512, .f32⟩
  | 5 => ⟨S2x1x6x1x512, .f32⟩
  | 6 => ⟨S2x1x6x1x512, .f32⟩
  | 7 => ⟨S2x1x6x514x512, .f32⟩
  | 8 => ⟨S2x1x6x514x1, .f32⟩
  | 9 => ⟨S2x1x6x514x1, .f32⟩
  | 10 => ⟨S2x1x6x514x514, .f32⟩
  | 11 => ⟨S2x1x4x512x512, .f32⟩
  | 12 => ⟨S2x1x4x512x512, .f32⟩
  | 13 => ⟨S2x1x4x512x512, .f32⟩
  | 14 => ⟨S_, .f32⟩
  | 15 => ⟨S2x1x4x512x512, .f32⟩
  | 16 => ⟨S2x1x4x512x512, .f32⟩
  | 17 => ⟨S2x1x4x512x512, .f32⟩
  | 18 => ⟨S2x1x4x512x512, .f32⟩
  | 19 => ⟨S2x1x4x512x512, .f32⟩
  | 20 => ⟨S_, .f32⟩
  | 21 => ⟨S2x1x4x512x512, .f32⟩
  | 22 => ⟨S2x1x4x512x512, .f32⟩
  | 23 => ⟨S2x1x4x512x512, .f32⟩
  | 24 => ⟨S2x1x4x512x512, .f32⟩
  | 25 => ⟨S2x1x4x512x512, .f32⟩
  | 26 => ⟨S_, .f32⟩
  | 27 => ⟨S2x1x4x512x512, .f32⟩
  | 28 => ⟨S2x1x4x512x512, .f32⟩
  | 29 => ⟨S2x1x4x512x512, .f32⟩
  | 30 => ⟨S_, .f32⟩
  | 31 => ⟨S2x1x4x512x512, .f32⟩
  | 32 => ⟨S2x1x4x512x512, .f32⟩
  | 33 => ⟨S2x1x4x512x512, .f32⟩
  | 34 => ⟨S2x1x4x512x512, .f32⟩
  | 35 => ⟨S2x1x4x512x512, .f32⟩
  | 36 => ⟨S2x1x4x512x512, .f32⟩
  | 37 => ⟨S_, .f32⟩
  | 38 => ⟨S2x1x4x512x512, .f32⟩
  | 39 => ⟨S2x1x4x512x512, .f32⟩
  | 40 => ⟨S2x1x4x512x512, .f32⟩
  | 41 => ⟨S2x1x4x512x512, .f32⟩
  | 42 => ⟨S2x1x4x512x512, .f32⟩
  | 43 => ⟨S2x1x4x512x512, .f32⟩
  | 44 => ⟨S2x1x4x512x512, .f32⟩
  | 45 => ⟨S2x1x4x512x512, .f32⟩
  | 46 => ⟨S2x1x4x512x512, .f32⟩
  | 47 => ⟨S2x1x4x512x512, .f32⟩
  | 48 => ⟨S2x1x4x512x512, .f32⟩
  | 49 => ⟨S2x1x4x512x512, .f32⟩
  | 50 => ⟨S_, .f32⟩
  | 51 => ⟨S2x1x4x512x512, .f32⟩
  | 52 => ⟨S2x1x4x512x512, .f32⟩
  | 53 => ⟨S2x1x4x512x512, .f32⟩
  | 54 => ⟨S2x1x4x512x512, .f32⟩
  | 55 => ⟨S2x1x4x512x512, .f32⟩
  | 56 => ⟨S2x1x4x512x512, .f32⟩
  | 57 => ⟨S2x1x4x512x512, .f32⟩
  | 58 => ⟨S2x1x4x512x512, .f32⟩
  | 59 => ⟨S2x1x4x512x512, .f32⟩
  | 60 => ⟨S_, .f32⟩
  | 61 => ⟨S2x1x4x512x512, .f32⟩
  | 62 => ⟨S2x1x4x512x512, .f32⟩
  | 63 => ⟨S2x1x4x512x512, .f32⟩
  | 64 => ⟨S2x1x4x512x512, .f32⟩
  | 65 => ⟨S2x1x4x512x512, .f32⟩
  | 66 => ⟨S2x1x4x512x512, .f32⟩
  | 67 => ⟨S2x1x4x512x512, .f32⟩
  | 68 => ⟨S2x1x4x512x512, .f32⟩
  | 69 => ⟨S2x1x4x512x512, .f32⟩
  | 70 => ⟨S_, .f32⟩
  | 71 => ⟨S2x1x4x512x512, .f32⟩
  | 72 => ⟨S2x1x4x512x512, .f32⟩
  | 73 => ⟨S3x3, .f32⟩
  | 74 => ⟨S_, .f32⟩
  | 75 => ⟨S3x3, .f32⟩
  | 76 => ⟨S3x3, .f32⟩
  | 77 => ⟨S1x1, .f32⟩
  | 78 => ⟨S_, .f32⟩
  | 79 => ⟨S2x1x4x512x512, .f32⟩
  | 80 => ⟨S2x1x4x512x512, .f32⟩
  | 81 => ⟨S1x1, .f32⟩
  | 82 => ⟨S_, .f32⟩
  | 83 => ⟨S2x1x4x512x512, .f32⟩
  | 84 => ⟨S2x1x4x512x512, .f32⟩
  | 85 => ⟨S1x1, .f32⟩
  | 86 => ⟨S_, .f32⟩
  | 87 => ⟨S2x1x4x512x512, .f32⟩
  | 88 => ⟨S2x1x4x512x512, .f32⟩
  | 89 => ⟨S1x1, .f32⟩
  | 90 => ⟨S_, .f32⟩
  | 91 => ⟨S2x1x4x512x512, .f32⟩
  | 92 => ⟨S2x1x4x512x512, .f32⟩
  | 93 => ⟨S1x1, .f32⟩
  | 94 => ⟨S_, .f32⟩
  | 95 => ⟨S2x1x4x512x512, .f32⟩
  | 96 => ⟨S2x1x4x512x512, .f32⟩
  | 97 => ⟨S1x1, .f32⟩
  | 98 => ⟨S_, .f32⟩
  | 99 => ⟨S2x1x4x512x512, .f32⟩
  | 100 => ⟨S2x1x4x512x512, .f32⟩
  | 101 => ⟨S1x1, .f32⟩
  | 102 => ⟨S_, .f32⟩
  | 103 => ⟨S2x1x4x512x512, .f32⟩
  | 104 => ⟨S2x1x4x512x512, .f32⟩
  | 105 => ⟨S1x1, .f32⟩
  | 106 => ⟨S_, .f32⟩
  | 107 => ⟨S2x1x4x512x512, .f32⟩
  | 108 => ⟨S2x1x4x512x512, .f32⟩
  | 109 => ⟨S1x1, .f32⟩
  | 110 => ⟨S_, .f32⟩
  | 111 => ⟨S2x1x4x512x512, .f32⟩
  | 112 => ⟨S2x1x4x512x512, .f32⟩
  | 113 => ⟨S2x1x4x512x512, .f32⟩
  | 114 => ⟨S2x1x4x512x512, .f32⟩
  | 115 => ⟨S2x1x4x512x512, .i1⟩
  | 116 => ⟨S2x1x4x512x512, .f32⟩
  | 117 => ⟨S2x1x4x512x512, .f32⟩
  | 118 => ⟨S2x1x4x512x512, .f32⟩
  | 119 => ⟨S2x1x4x512x512, .f32⟩
  | 120 => ⟨S2x1x4x512x512, .f32⟩
  | 121 => ⟨S2x1x4x512x512, .f32⟩
  | 122 => ⟨S2x1x4x512x512, .f32⟩
  | 123 => ⟨S2x1x4x512x512, .f32⟩
  | 124 => ⟨S2x1x4x512x512, .f32⟩
  | 125 => ⟨S2x1x4x512x512, .f32⟩
  | 126 => ⟨S2x1x4x512x512, .i1⟩
  | 127 => ⟨S2x1x4x512x512, .f32⟩
  | _ => ⟨S2x1x4x512x512, .f32⟩

abbrev hbmTy0_1 (i : Nat) : BufTy := match i % 128 with
  | 0 => ⟨S2x1x4x512x512, .f32⟩
  | 1 => ⟨S2x1x4x512x512, .f32⟩
  | 2 => ⟨S2x1x4x512x512, .f32⟩
  | 3 => ⟨S2x1x4x512x512, .f32⟩
  | 4 => ⟨S2x1x4x512x512, .f32⟩
  | 5 => ⟨S2x1x4x512x512, .f32⟩
  | 6 => ⟨S2x1x4x512x512, .f32⟩
  | 7 => ⟨S2x1x4x512x512, .f32⟩
  | 8 => ⟨S2x1x4x512x512, .f32⟩
  | 9 => ⟨S2x1x4x512x512, .f32⟩
  | 10 => ⟨S2x1x4x512x512, .f32⟩
  | 11 => ⟨S2x1x4x512x512, .f32⟩
  | 12 => ⟨S2x1x4x512x512, .f32⟩
  | 13 => ⟨S2x1x4x512x512, .f32⟩
  | 14 => ⟨S2x1x4x512x512, .f32⟩
  | 15 => ⟨S2x1x4x512x512, .f32⟩
  | 16 => ⟨S2x1x4x512x512, .f32⟩
  | 17 => ⟨S2x1x4x512x512, .f32⟩
  | 18 => ⟨S2x1x4x512x512, .f32⟩
  | 19 => ⟨S2x1x4x512x512, .f32⟩
  | 20 => ⟨S2x1x4x512x512, .f32⟩
  | 21 => ⟨S2x1x4x512x512, .f32⟩
  | 22 => ⟨S2x1x4x512x512, .f32⟩
  | 23 => ⟨S2x1x4x512x512, .f32⟩
  | 24 => ⟨S2x1x4x512x512, .f32⟩
  | 25 => ⟨S2x1x4x512x512, .f32⟩
  | 26 => ⟨S2x1x4x512x512, .f32⟩
  | 27 => ⟨S2x1x4x512x512, .i1⟩
  | 28 => ⟨S2x1x4x512x512, .f32⟩
  | 29 => ⟨S2x1x4x512x512, .f32⟩
  | 30 => ⟨S2x1x4x512x512, .f32⟩
  | 31 => ⟨S2x1x4x512x512, .f32⟩
  | 32 => ⟨S2x1x4x512x512, .f32⟩
  | 33 => ⟨S2x1x4x512x512, .f32⟩
  | 34 => ⟨S2x1x4x512x512, .f32⟩
  | 35 => ⟨S2x1x4x512x512, .f32⟩
  | 36 => ⟨S2x1x4x512x512, .f32⟩
  | 37 => ⟨S2x1x4x512x512, .f32⟩
  | 38 => ⟨S2x1x4x512x512, .f32⟩
  | 39 => ⟨S2x1x4x512x512, .f32⟩
  | 40 => ⟨S2x1x4x512x512, .f32⟩
  | 41 => ⟨S2x1x4x512x512, .f32⟩
  | 42 => ⟨S2x1x4x512x512, .f32⟩
  | 43 => ⟨S2x1x4x512x512, .f32⟩
  | 44 => ⟨S2x1x4x512x512, .f32⟩
  | 45 => ⟨S2x1x4x512x512, .f32⟩
  | 46 => ⟨S2x1x4x512x512, .f32⟩
  | 47 => ⟨S2x1x4x512x512, .f32⟩
  | 48 => ⟨S2x1x4x512x512, .f32⟩
  | 49 => ⟨S2x1x4x512x512, .f32⟩
  | 50 => ⟨S2x1x4x512x512, .f32⟩
  | 51 => ⟨S2x1x4x512x512, .f32⟩
  | 52 => ⟨S2x1x4x512x512, .f32⟩
  | 53 => ⟨S2x1x4x512x512, .f32⟩
  | 54 => ⟨S2x1x4x512x512, .f32⟩
  | 55 => ⟨S2x1x4x512x512, .f32⟩
  | 56 => ⟨S2x1x4x512x512, .f32⟩
  | 57 => ⟨S2x1x4x512x512, .f32⟩
  | 58 => ⟨S2x1x4x512x512, .f32⟩
  | 59 => ⟨S2x1x4x512x512, .f32⟩
  | 60 => ⟨S2x1x4x512x512, .f32⟩
  | 61 => ⟨S2x1x4x512x512, .f32⟩
  | 62 => ⟨S_, .f32⟩
  | 63 => ⟨S2x1x6x514x514, .f32⟩
  | 64 => ⟨S_, .f32⟩
  | 65 => ⟨S2x1x4x512x512, .f32⟩
  | 66 => ⟨S2x1x4x512x512, .f32⟩
  | 67 => ⟨S2x1x4x512x512, .f32⟩
  | 68 => ⟨S2x1x4x512x512, .f32⟩
  | 69 => ⟨S2x1x4x512x512, .f32⟩
  | 70 => ⟨S2x1x4x512x512, .f32⟩
  | 71 => ⟨S2x1x4x512x512, .f32⟩
  | 72 => ⟨S2x1x4x512x512, .f32⟩
  | 73 => ⟨S2x1x4x512x512, .f32⟩
  | 74 => ⟨S2x1x4x512x512, .f32⟩
  | 75 => ⟨S2x1x4x512x512, .f32⟩
  | 76 => ⟨S2x1x4x512x512, .f32⟩
  | 77 => ⟨S2x1x4x512x512, .f32⟩
  | 78 => ⟨S2x1x4x512x512, .f32⟩
  | 79 => ⟨S2x1x4x512x512, .f32⟩
  | 80 => ⟨S2x1x4x512x512, .f32⟩
  | 81 => ⟨S2x1x4x512x512, .f32⟩
  | 82 => ⟨S2x1x4x512x512, .f32⟩
  | 83 => ⟨S2x1x4x512x512, .f32⟩
  | 84 => ⟨S2x1x4x512x512, .f32⟩
  | 85 => ⟨S2x1x4x512x512, .f32⟩
  | 86 => ⟨S2x1x4x512x512, .f32⟩
  | 87 => ⟨S2x1x4x512x512, .f32⟩
  | 88 => ⟨S2x1x4x512x512, .f32⟩
  | 89 => ⟨S2x1x4x512x512, .f32⟩
  | 90 => ⟨S2x1x4x512x512, .f32⟩
  | 91 => ⟨S2x1x4x512x512, .f32⟩
  | 92 => ⟨S2x1x4x512x512, .f32⟩
  | 93 => ⟨S2x1x4x512x512, .f32⟩
  | 94 => ⟨S2x1x4x512x512, .f32⟩
  | 95 => ⟨S2x1x4x512x512, .f32⟩
  | 96 => ⟨S2x1x4x512x512, .f32⟩
  | 97 => ⟨S2x1x4x512x512, .f32⟩
  | 98 => ⟨S2x1x4x512x512, .f32⟩
  | 99 => ⟨S2x1x4x512x512, .f32⟩
  | 100 => ⟨S2x1x4x512x512, .f32⟩
  | 101 => ⟨S2x1x4x512x512, .f32⟩
  | 102 => ⟨S2x1x4x512x512, .f32⟩
  | 103 => ⟨S2x1x4x512x512, .f32⟩
  | 104 => ⟨S2x1x4x512x512, .f32⟩
  | 105 => ⟨S2x1x4x512x512, .f32⟩
  | 106 => ⟨S2x1x4x512x512, .f32⟩
  | 107 => ⟨S2x1x4x512x512, .f32⟩
  | 108 => ⟨S2x1x4x512x512, .f32⟩
  | 109 => ⟨S2x1x4x512x512, .f32⟩
  | 110 => ⟨S2x1x4x512x512, .f32⟩
  | 111 => ⟨S2x1x4x512x512, .f32⟩
  | 112 => ⟨S2x1x4x512x512, .f32⟩
  | 113 => ⟨S2x1x4x512x512, .f32⟩
  | 114 => ⟨S2x1x4x512x512, .f32⟩
  | 115 => ⟨S2x1x4x512x512, .f32⟩
  | 116 => ⟨S2x1x4x512x512, .f32⟩
  | 117 => ⟨S2x1x4x512x512, .f32⟩
  | 118 => ⟨S2x1x4x512x512, .i1⟩
  | 119 => ⟨S_, .f32⟩
  | 120 => ⟨S2x1x4x512x512, .f32⟩
  | 121 => ⟨S2x1x4x512x512, .i1⟩
  | 122 => ⟨S2x1x4x512x512, .i1⟩
  | 123 => ⟨S_, .f32⟩
  | 124 => ⟨S_, .f32⟩
  | 125 => ⟨S2x1x4x512x512, .f32⟩
  | 126 => ⟨S2x1x4x512x512, .f32⟩
  | 127 => ⟨S_, .f32⟩
  | _ => ⟨S2x1x4x512x512, .f32⟩

abbrev hbmTy0_2 (i : Nat) : BufTy := match i % 128 with
  | 0 => ⟨S_, .f32⟩
  | 1 => ⟨S2x1x4x512x512, .f32⟩
  | 2 => ⟨S2x1x4x512x512, .f32⟩
  | 3 => ⟨S_, .f32⟩
  | 4 => ⟨S_, .f32⟩
  | 5 => ⟨S2x1x4x512x512, .f32⟩
  | 6 => ⟨S2x1x4x512x512, .f32⟩
  | 7 => ⟨S2x1x4x512x512, .f32⟩
  | 8 => ⟨S2x1x4x512x512, .f32⟩
  | 9 => ⟨S2x1x4x512x512, .f32⟩
  | 10 => ⟨S2x1x4x512x512, .f32⟩
  | 11 => ⟨S2x1x4x512x512, .f32⟩
  | 12 => ⟨S_, .f32⟩
  | 13 => ⟨S2x1x4x512x512, .f32⟩
  | 14 => ⟨S2x1x4x512x512, .f32⟩
  | 15 => ⟨S2x1x4x512x512, .f32⟩
  | 16 => ⟨S2x1x4x512x512, .f32⟩
  | 17 => ⟨S_, .f32⟩
  | 18 => ⟨S2x1x4x512x512, .f32⟩
  | 19 => ⟨S2x1x4x512x512, .f32⟩
  | 20 => ⟨S2x1x4x512x512, .f32⟩
  | 21 => ⟨S4, .f32⟩
  | 22 => ⟨S512, .f32⟩
  | 23 => ⟨S512, .f32⟩
  | 24 => ⟨S4x512x512, .f32⟩
  | 25 => ⟨S4x512x512, .f32⟩
  | 26 => ⟨S4x512x512, .f32⟩
  | 27 => ⟨S1x4x512x512, .f32⟩
  | 28 => ⟨S1x4x512x512, .f32⟩
  | 29 => ⟨S1x4x512x512, .f32⟩
  | 30 => ⟨S3x4x512x512, .f32⟩
  | 31 => ⟨S2x1x1x4x512x512, .f32⟩
  | 32 => ⟨S2x1x1x4x512x512, .f32⟩
  | 33 => ⟨S2x1x1x4x512x512, .f32⟩
  | 34 => ⟨S2x1x3x4x512x512, .f32⟩
  | 35 => ⟨S1x1x3x4x512x512, .f32⟩
  | 36 => ⟨S2x1x3x4x512x512, .f32⟩
  | 37 => ⟨S2x1x3x4x512x512, .f32⟩
  | _ => ⟨S2x1x4x512x512, .f32⟩

abbrev hbmTy (i : Nat) : BufTy := match i / 128 with
  | 0 => hbmTy0_0 i
  | 1 => hbmTy0_1 i
  | 2 => hbmTy0_2 i
  | _ => ⟨S2x1x4x512x512, .f32⟩

abbrev bufTy : (tb : Table) → Fin (tcTables nBuf tb) → BufTy
  | .hbm, ⟨i, _⟩ => hbmTy i
  | _, _ => ⟨S2x1x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_4 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_5 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_6 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_7 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_8 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_cst_9 : Ref sig .tc := ⟨.hbm, 190, rfl⟩
abbrev main_v179 : Ref sig .tc := ⟨.hbm, 191, rfl⟩
abbrev main_cst_10 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_cst_11 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_cst_12 : Ref sig .tc := ⟨.hbm, 251, rfl⟩
abbrev main_call24_v0 : Ref sig .tc := ⟨.hbm, 252, rfl⟩
abbrev main_call24_v1 : Ref sig .tc := ⟨.hbm, 253, rfl⟩
abbrev main_v237 : Ref sig .tc := ⟨.hbm, 254, rfl⟩
abbrev main_cst_13 : Ref sig .tc := ⟨.hbm, 255, rfl⟩
abbrev main_call25_v0 : Ref sig .tc := ⟨.hbm, 256, rfl⟩
abbrev main_call25_v1 : Ref sig .tc := ⟨.hbm, 257, rfl⟩
abbrev main_v238 : Ref sig .tc := ⟨.hbm, 258, rfl⟩
abbrev main_cst_14 : Ref sig .tc := ⟨.hbm, 259, rfl⟩
abbrev main_call26_v0 : Ref sig .tc := ⟨.hbm, 260, rfl⟩
abbrev main_call26_v1 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_cst_15 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_cst_16 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩

abbrev nD : Nat := 1
abbrev τ : Topo := Topo.v7x

variable {F : FTy → Type} [FloatOps F]
-- ==== Proof.Shift.lean ====
/- The tile as the kernel holds it: 4 planes of 16 rows of 4096 lanes, where the 128 image rows of the tile lie eight to
   a row, 512 lanes each. Each shift of the kernel - one image row up or down, one column left or right, one plane
   forward or back - read as what it does to the volume. -/
module

public import proofs.«01_k».proof.Proof.Gen.KernelIdeal.Skeleton
public import Idealize.ShloMosaic.Lib.Pointwise
public import Idealize.ShloMosaic.Lib.Routing.Words
public import Idealize.ShloMosaic.Lib.Tactic.WordOmega

@[expose] public section

set_option maxRecDepth 16384

noncomputable section

namespace Interp

open Idealize.ShloMosaic Idealize.SL Cert.KernelIdeal Cert.KernelIdeal.Gen

/-- A value for each plane, row and column of one volume. -/
abbrev Field := ℕ → ℕ → ℕ → EReal

/-- The vector `v` holds the rows `128 i`, …, `128 i + 127` of the volume `V`. -/
def Rep (i : ℕ) (v : FVec Ideal S4x16x4096 .f32) (V : Field) : Prop :=
  ∀ (d : Fin 4) (r : Fin 16) (l : Fin 4096), v (ix3 d r l) = V d (128 * i + 8 * r + l / 512) (l % 512)

/-- The lane numbers, as the kernel counts them. -/
abbrev lanes : IVec S1x1x4096 32 := iota .tc S1x1x4096 32 [2] iota_S1x1x4096_d2_w32

/-- A lane's number modulo 512, by a mask. -/
theorem lane_and (l : Fin 4096) : IntOp.andi (BitVec.ofNat 32 l) 511#32 = BitVec.ofNat 32 (l % 512) := by
  apply BitVec.eq_of_toNat_eq
  have h := l.isLt
  have e : (511 : ℕ) = 2 ^ 9 - 1 := rfl
  show (BitVec.ofNat 32 l &&& 511#32).toNat = _
  rw [BitVec.toNat_and, BitVec.toNat_ofNat, BitVec.toNat_ofNat, BitVec.toNat_ofNat, Nat.mod_eq_of_lt (by omega : l.val < 2 ^ 32),
    Nat.mod_eq_of_lt (by omega : l.val % 512 < 2 ^ 32), Nat.mod_eq_of_lt (by omega : 511 < 2 ^ 32), e, Nat.and_two_pow_sub_one_eq_mod]

theorem col_at (l : Fin 4096) : k0_pay6 lanes k0_pay5 (ix3 0 0 l) = BitVec.ofNat 32 (l % 512) := by
  pointwise [k0_pay6, k0_pay5, lanes]
  exact lane_and l

theorem word_eq_iff {a b : ℕ} (ha : a < 4096) (hb : b < 4096) :
    IntOp.cmpi .eq (BitVec.ofNat 32 a) (BitVec.ofNat 32 b) = BitVec.ofBool (decide (a = b)) := by
  word_omega

/-- The first column and the last, as the kernel marks them. -/
theorem first_at (l : Fin 4096) : k0_pay7 lanes k0_pay5 (ix3 0 0 l) = BitVec.ofBool (decide (l.val % 512 = 0)) := by
  have h := l.isLt
  rw [← word_eq_iff (by omega) (by omega), ← col_at]; rfl

theorem last_at (l : Fin 4096) : k0_pay8 lanes k0_pay5 (ix3 0 0 l) = BitVec.ofBool (decide (l.val % 512 = 511)) := by
  have h := l.isLt
  rw [← word_eq_iff (by omega) (by omega), ← col_at]; rfl

theorem select_ofBool {α : Type} (b : Prop) [Decidable b] (x y : α) :
    Scalar.select (BitVec.ofBool (decide b)) x y = if b then x else y := by
  by_cases h : b
  · simp [h, Scalar.select]
  · simp [h, Scalar.select]

variable {i : ℕ} {v : FVec Ideal S4x16x4096 .f32} {V : Field}

/-- The lanes taken one to the left hold the column before, and the first column itself. -/
theorem Rep.left (h : Rep i v V) : Rep i (k0_pay9 v lanes k0_pay5) (fun d h w => V d h (w - 1)) := by
  intro d r l
  have e : k0_pay9 v lanes k0_pay5 (ix3 d r l) = Scalar.select (k0_pay7 lanes k0_pay5 (ix3 0 0 l)) (v (ix3 d r l))
      (if h : l.val < 1 then v (ix3 d r l) else v (ix3 d r ⟨l.val - 1, by omega⟩)) := by
    pointwise [k0_pay9]
  rw [e, first_at, select_ofBool]
  split
  · rename_i h0; rw [h, h0]
  · rw [dif_neg (by omega), h]
    have a : (l.val - 1) / 512 = l.val / 512 := by omega
    have b : (l.val - 1) % 512 = l.val % 512 - 1 := by omega
    dsimp only; rw [a, b]

/-- One to the right: the column after, and the last column itself. -/
theorem Rep.right (h : Rep i v V) : Rep i (k0_pay10 v lanes k0_pay5) (fun d h w => V d h (min (w + 1) 511)) := by
  intro d r l
  have hl := l.isLt
  have e : k0_pay10 v lanes k0_pay5 (ix3 d r l) = Scalar.select (k0_pay8 lanes k0_pay5 (ix3 0 0 l)) (v (ix3 d r l))
      (if h : l.val < 4095 then v (ix3 d r ⟨1 + l.val, by omega⟩) else v (ix3 d r ⟨4095, by omega⟩)) := by
    pointwise [k0_pay10]
    split
    · rfl
    · have k : (⟨4095 + (l.val - 4095), by omega⟩ : Fin 4096) = 4095 := Fin.ext (show 4095 + (l.val - 4095) = 4095 by omega)
      rw [k]
  rw [e, last_at, select_ofBool]
  split
  · rename_i h0; rw [h, h0]; rfl
  · rw [dif_pos (by omega), h]
    have a : (1 + l.val) / 512 = l.val / 512 := by omega
    have b : (1 + l.val) % 512 = min (l.val % 512 + 1) 511 := by omega
    dsimp only; rw [a, b]

/-- The plane before, and the first plane itself; -/
theorem Rep.front (h : Rep i v V) : Rep i (k0_pay30 v) (fun d h w => V (d - 1) h w) := by
  intro d r l
  have e : k0_pay30 v (ix3 d r l) = v (ix3 ⟨d.val - 1, by omega⟩ r l) := by
    pointwise [k0_pay30]
    split
    · congr 2; apply Fin.ext; simp; omega
    · rfl
  rw [e, h]

/-- the plane after, and the last plane itself. -/
theorem Rep.back (h : Rep i v V) : Rep i (k0_pay31 v) (fun d h w => V (min (d + 1) 3) h w) := by
  intro d r l
  have e : k0_pay31 v (ix3 d r l) = v (ix3 ⟨min (d.val + 1) 3, by omega⟩ r l) := by
    pointwise [k0_pay31]
    split
    · congr 2; apply Fin.ext; simp; omega
    · congr 2; apply Fin.ext; simp; omega
  rw [e, h]

/-- The block as it is loaded. -/
theorem rep_load {v9 : Vec Ideal S1x4x16x4096 .f32}
    (h9 : ∀ (d : Fin 4) (r : Fin 16) (l : Fin 4096), v9 (ix4 0 d r l) = V d (128 * i + 8 * r + l / 512) (l % 512)) :
    Rep i (k0_pay2 v9) V := by
  intro d r l
  rw [← h9]
  pointwise [k0_pay2]

/-- The rows taken one image row up: the row before, its first one from the halo row above the tile. -/
theorem rep_up {v9 : Vec Ideal S1x4x16x4096 .f32} {v11 : Vec Ideal S1x4x1x1x512 .f32}
    (h9 : ∀ (d : Fin 4) (r : Fin 16) (l : Fin 4096), v9 (ix4 0 d r l) = V d (128 * i + 8 * r + l / 512) (l % 512))
    (h11 : ∀ (d : Fin 4) (w : Fin 512), v11 (ix5 0 d 0 0 w) = V d (128 * i - 1) w) :
    Rep i (k0_pay3 v9 v11) (fun d h w => V d (h - 1) w) := by
  intro d r l
  have hl := l.isLt
  have hr := r.isLt
  pointwise [k0_pay3, k0_pay2]
  split
  · split
    · rw [h11]; dsimp only
      congr 1 <;> omega
    · rw [h9]; dsimp only
      congr 1 <;> omega
  · rw [h9]; dsimp only
    congr 1 <;> omega

/-- One image row down, the last one from the halo row below the tile. -/
theorem rep_down {v9 : Vec Ideal S1x4x16x4096 .f32} {v18 : Vec Ideal S1x4x1x1x512 .f32} (hi : i < 4)
    (h9 : ∀ (d : Fin 4) (r : Fin 16) (l : Fin 4096), v9 (ix4 0 d r l) = V d (128 * i + 8 * r + l / 512) (l % 512))
    (h18 : ∀ (d : Fin 4) (w : Fin 512), v18 (ix5 0 d 0 0 w) = V d (min (128 * i + 128) 511) w) :
    Rep i (k0_pay4 v9 v18) (fun d h w => V d (min (h + 1) 511) w) := by
  intro d r l
  have hl := l.isLt
  have hr := r.isLt
  pointwise [k0_pay4, k0_pay2]
  split
  · rw [h9]; dsimp only
    congr 1 <;> omega
  · split
    · rw [h9]; dsimp only
      congr 1 <;> omega
    · rw [h18]; dsimp only
      congr 1 <;> omega

/-- The image row of a lane, as the kernel computes it. -/
theorem row_at (hi : i < 4) (r : Fin 16) (l : Fin 4096) :
    k0_pay19 lanes (k0_pay15 (BitVec.ofNat 32 i)) 512#32 (k0_pay16 lanes) (k0_pay17 lanes) k0_pay18 (ix3 0 r l)
      = BitVec.ofNat 32 (128 * i + 8 * r + l / 512) := by
  have hl := l.isLt
  have hr := r.isLt
  pointwise [k0_pay15, k0_pay16, k0_pay17, k0_pay18, k0_pay19, lanes]
  have q : IntOp.divsi ArithUnit.vector (BitVec.ofNat 32 l) 512#32 = BitVec.ofNat 32 (l / 512) := by
    exact Routing.divsi_word _ (by omega) (by omega) (by omega)
  have m : IntOp.remsi ArithUnit.vector (BitVec.ofNat 32 l) 512#32 = BitVec.ofNat 32 (l % 512) := by
    exact Routing.remsi_word _ (by omega) (by omega) (by omega)
  rw [q, m]
  have g : IntOp.cmpi .sgt (BitVec.ofNat 32 l) 0#32 = BitVec.ofBool (decide (0 < l.val)) := by word_omega
  have g' : IntOp.cmpi .slt (BitVec.ofNat 32 l) 0#32 = 0#1 := by word_omega
  have n : IntOp.cmpi .ne (BitVec.ofNat 32 (l.val % 512)) 0#32 = BitVec.ofBool (decide (l.val % 512 ≠ 0)) := by word_omega
  rw [g, g', n]
  have c : IntOp.andi (IntOp.cmpi .ne (IntOp.subi (BitVec.setWidth 32 (BitVec.ofBool (decide (0 < l.val)))) (BitVec.setWidth 32 0#1))
      (Scalar.subi (Scalar.extui (Scalar.cmpi .sgt 512#32 0#32)) (Scalar.extui (Scalar.cmpi .slt 512#32 0#32))))
      (BitVec.ofBool (decide (l.val % 512 ≠ 0))) = 0#1 := by
    by_cases h0 : l.val = 0
    · simp only [h0]; decide
    · have p : 0 < l.val := by omega
      simp only [p]
      by_cases h1 : l.val % 512 = 0
      · simp only [h1]; decide
      · simp only [ne_eq, h1]; decide
  rw [c]
  show BitVec.ofNat 32 8 * (BitVec.ofNat 32 i * BitVec.ofNat 32 16 + BitVec.ofNat 32 r) + BitVec.ofNat 32 (l / 512) = _
  simp only [← BitVec.ofNat_mul, ← BitVec.ofNat_add]
  congr 1; omega

end Interp
end
-- ==== Proof.Maxima.lean ====
/- The test for a strict maximum: the kernel's nested maxima over the neighbours of a voxel, and the reference's one
   after the other over the volume padded by minus infinity, are the same. -/
module

public import proofs.«01_k».proof.Proof.Shift

@[expose] public section

set_option maxRecDepth 16384

noncomputable section

namespace Interp

open Idealize.ShloMosaic Idealize.SL Cert.KernelIdeal Cert.KernelIdeal.Gen

theorem ofBits_neg_inf : Ideal.ofBits .f32 0xFF800000#32 = ⊥ := by
  simp [Ideal.ofBits, Ideal.ieee]

/-- The volume padded by minus infinity, by one on every side. -/
def padded (V : Field) : Field := fun a b c =>
  if (1 ≤ a ∧ a ≤ 4) ∧ (1 ≤ b ∧ b ≤ 512) ∧ (1 ≤ c ∧ c ≤ 512) then V (a - 1) (b - 1) (c - 1) else ⊥

/-- The greatest of the twenty-six neighbours, in the order of the reference: the voxel (d, h, w) of the volume
    is the voxel (d + 1, h + 1, w + 1) of the padded volume P. -/
def neighbours (P : Field) : Field := fun d h w =>
  max (max (max (max (max (max (max (max (max (max (max (max (max (max (max (max (max (max (max (max (max (max (max (max (max (max ⊥ (P d h w)) (P d h (w + 1))) (P d h (w + 2))) (P d (h + 1) w)) (P d (h + 1) (w + 1))) (P d (h + 1) (w + 2))) (P d (h + 2) w)) (P d (h + 2) (w + 1))) (P d (h + 2) (w + 2))) (P (d + 1) h w)) (P (d + 1) h (w + 1))) (P (d + 1) h (w + 2))) (P (d + 1) (h + 1) w)) (P (d + 1) (h + 1) (w + 2))) (P (d + 1) (h + 2) w)) (P (d + 1) (h + 2) (w + 1))) (P (d + 1) (h + 2) (w + 2))) (P (d + 2) h w)) (P (d + 2) h (w + 1))) (P (d + 2) h (w + 2))) (P (d + 2) (h + 1) w)) (P (d + 2) (h + 1) (w + 1))) (P (d + 2) (h + 1) (w + 2))) (P (d + 2) (h + 2) w)) (P (d + 2) (h + 2) (w + 1))) (P (d + 2) (h + 2) (w + 2))

/-- The greatest of the eight neighbours within the plane, as the kernel nests them: U and D hold the rows above
    and below. -/
def eight (V U D : Field) : Field := fun d h w =>
  max (max (if w = 0 then ⊥ else max (max (U d h (w - 1)) (D d h (w - 1))) (V d h (w - 1)))
      (if w = 511 then ⊥ else max (max (U d h (min (w + 1) 511)) (D d h (min (w + 1) 511))) (V d h (min (w + 1) 511))))
    (max (U d h w) (D d h w))

/-- With the planes before and after. -/
def around (V U D : Field) : Field := fun d h w =>
  max (max (if d < 1 then ⊥ else max (eight V U D (d - 1) h w) (V (d - 1) h w))
      (if d < 3 then max (eight V U D (d + 1) h w) (V (d + 1) h w) else ⊥))
    (eight V U D d h w)

/-- The rows above, minus infinity above the first; the rows below, minus infinity below the last. -/
def above (V : Field) : Field := fun d h w => if 1 ≤ h then V d (h - 1) w else ⊥
def below (V : Field) : Field := fun d h w => if h ≤ 510 then V d (min (h + 1) 511) w else ⊥

theorem above_padded (V : Field) {d h w : ℕ} (hd : d < 4) (hh : h < 512) (hw : w < 512) :
    above V d h w = padded V (d + 1) h (w + 1) := by
  unfold above padded
  by_cases h1 : 1 ≤ h
  · rw [if_pos h1, if_pos (by omega)]; rfl
  · rw [if_neg h1, if_neg (by omega)]

theorem below_padded (V : Field) {d h w : ℕ} (hd : d < 4) (hh : h < 512) (hw : w < 512) :
    below V d h w = padded V (d + 1) (h + 2) (w + 1) := by
  unfold below padded
  by_cases h1 : h ≤ 510
  · have e : min (h + 1) 511 = h + 1 := by omega
    rw [if_pos h1, if_pos (by omega), e]; rfl
  · rw [if_neg h1, if_neg (by omega)]

theorem self_padded (V : Field) {d h w : ℕ} (hd : d < 4) (hh : h < 512) (hw : w < 512) :
    V d h w = padded V (d + 1) (h + 1) (w + 1) := by
  unfold padded
  rw [if_pos (by omega)]; rfl

theorem padded_col (V : Field) {a b c : ℕ} (h : c = 0 ∨ c = 513) : padded V a b c = ⊥ := by
  unfold padded; rw [if_neg (by omega)]

theorem padded_plane (V : Field) {a b c : ℕ} (h : a = 0 ∨ a = 5) : padded V a b c = ⊥ := by
  unfold padded; rw [if_neg (by omega)]

/-- The eight neighbours of the plane a of the padded volume. -/
def ring (P : Field) (a h w : ℕ) : EReal :=
  max (max (max (max (P a h w) (P a (h + 2) w)) (P a (h + 1) w))
      (max (max (P a h (w + 2)) (P a (h + 2) (w + 2))) (P a (h + 1) (w + 2))))
    (max (P a h (w + 1)) (P a (h + 2) (w + 1)))

theorem eight_padded (V : Field) {d h w : ℕ} (hd : d < 4) (hh : h < 512) (hw : w < 512) :
    eight V (above V) (below V) d h w = ring (padded V) (d + 1) h w := by
  unfold eight ring
  congr 1
  · congr 1
    · split
      · subst w
        rw [padded_col V (Or.inl rfl), padded_col V (Or.inl rfl), padded_col V (Or.inl rfl), max_self, max_self]
      · have e : w - 1 + 1 = w := by omega
        rw [above_padded V hd hh (by omega), below_padded V hd hh (by omega), self_padded V hd hh (by omega : w - 1 < 512), e]
    · split
      · subst w
        rw [padded_col V (Or.inr rfl), padded_col V (Or.inr rfl), padded_col V (Or.inr rfl), max_self, max_self]
      · have e : min (w + 1) 511 = w + 1 := by omega
        rw [e, above_padded V hd hh (by omega), below_padded V hd hh (by omega), self_padded V hd hh (by omega : w + 1 < 512)]
  · rw [above_padded V hd hh hw, below_padded V hd hh hw]

/-- The two ways of taking the greatest neighbour agree at every voxel. -/
theorem around_eq (V : Field) {d h w : ℕ} (hd : d < 4) (hh : h < 512) (hw : w < 512) :
    around V (above V) (below V) d h w = neighbours (padded V) d h w := by
  have front : (if d < 1 then (⊥ : EReal) else max (eight V (above V) (below V) (d - 1) h w) (V (d - 1) h w))
      = max (ring (padded V) d h w) (padded V d (h + 1) (w + 1)) := by
    split
    · have e : d = 0 := by omega
      subst e
      unfold ring
      simp only [padded_plane V (Or.inl rfl), max_self]
    · have e : d - 1 + 1 = d := by omega
      rw [eight_padded V (by omega) hh hw, self_padded V (by omega : d - 1 < 4) hh hw, e]
  have back : (if d < 3 then max (eight V (above V) (below V) (d + 1) h w) (V (d + 1) h w) else (⊥ : EReal))
      = max (ring (padded V) (d + 2) h w) (padded V (d + 2) (h + 1) (w + 1)) := by
    split
    · rw [eight_padded V (by omega) hh hw, self_padded V (by omega : d + 1 < 4) hh hw]
    · have e : d = 3 := by omega
      subst e
      unfold ring
      simp only [padded_plane V (Or.inr rfl : 3 + 2 = 0 ∨ 3 + 2 = 5), max_self]
  unfold around
  rw [front, back, eight_padded V hd hh hw]
  unfold ring neighbours
  rw [max_eq_right (bot_le (a := padded V d h w))]
  generalize padded V = P
  ac_rfl

variable {i : ℕ} {v : FVec Ideal S4x16x4096 .f32} {V : Field}

/-- The rows above as the kernel masks them, -/
theorem Rep.maskAbove (hi : i < 4) (h : Rep i v (fun d h w => V d (h - 1) w)) :
    Rep i (k0_pay20 v lanes (k0_pay15 (BitVec.ofNat 32 i)) 512#32 (k0_pay16 lanes) (k0_pay17 lanes) k0_pay18) (above V) := by
  intro d r l
  have hl := l.isLt
  have hr := r.isLt
  have e : k0_pay20 v lanes (k0_pay15 (BitVec.ofNat 32 i)) 512#32 (k0_pay16 lanes) (k0_pay17 lanes) k0_pay18 (ix3 d r l)
      = Scalar.select (IntOp.cmpi .sge (k0_pay19 lanes (k0_pay15 (BitVec.ofNat 32 i)) 512#32 (k0_pay16 lanes) (k0_pay17 lanes) k0_pay18 (ix3 0 r l)) 1#32)
          (v (ix3 d r l)) (Ideal.ofBits .f32 0xFF800000#32) := by
    pointwise [k0_pay20]
  have c : IntOp.cmpi .sge (BitVec.ofNat 32 (128 * i + 8 * r + l / 512)) 1#32
      = BitVec.ofBool (decide (1 ≤ 128 * i + 8 * r.val + l.val / 512)) := by word_omega
  rw [e, row_at hi, c, select_ofBool, ofBits_neg_inf, h]; rfl

/-- and the rows below. -/
theorem Rep.maskBelow (hi : i < 4) (h : Rep i v (fun d h w => V d (min (h + 1) 511) w)) :
    Rep i (k0_pay21 v lanes (k0_pay15 (BitVec.ofNat 32 i)) 512#32 (k0_pay16 lanes) (k0_pay17 lanes) k0_pay18) (below V) := by
  intro d r l
  have hl := l.isLt
  have hr := r.isLt
  have e : k0_pay21 v lanes (k0_pay15 (BitVec.ofNat 32 i)) 512#32 (k0_pay16 lanes) (k0_pay17 lanes) k0_pay18 (ix3 d r l)
      = Scalar.select (IntOp.cmpi .sle (k0_pay19 lanes (k0_pay15 (BitVec.ofNat 32 i)) 512#32 (k0_pay16 lanes) (k0_pay17 lanes) k0_pay18 (ix3 0 r l)) 510#32)
          (v (ix3 d r l)) (Ideal.ofBits .f32 0xFF800000#32) := by
    pointwise [k0_pay21]
  have c : IntOp.cmpi .sle (BitVec.ofNat 32 (128 * i + 8 * r + l / 512)) 510#32
      = BitVec.ofBool (decide (128 * i + 8 * r.val + l.val / 512 ≤ 510)) := by word_omega
  rw [e, row_at hi, c, select_ofBool, ofBits_neg_inf, h]; rfl

/-- The kernel's test: a voxel against the greatest of its neighbours. -/
theorem maxima_at {v10 v38 v41 v104 v110 v119 v122 v125 v128 : FVec Ideal S4x16x4096 .f32} {U D : Field}
    (h10 : Rep i v10 V) (h38 : Rep i v38 (fun d h w => V d h (w - 1))) (h41 : Rep i v41 (fun d h w => V d h (min (w + 1) 511)))
    (h104 : Rep i v104 U) (h110 : Rep i v110 D)
    (h119 : Rep i v119 (fun d h w => U d h (w - 1))) (h122 : Rep i v122 (fun d h w => U d h (min (w + 1) 511)))
    (h125 : ∀ (d : Fin 4) (r : Fin 16) (l : Fin 4096), Scalar.select (k0_pay7 lanes k0_pay5 (ix3 0 0 l)) (v110 (ix3 d r l)) (v125 (ix3 d r l))
      = D d (128 * i + 8 * r + l / 512) (l % 512 - 1))
    (h128 : ∀ (d : Fin 4) (r : Fin 16) (l : Fin 4096), Scalar.select (k0_pay8 lanes k0_pay5 (ix3 0 0 l)) (v110 (ix3 d r l)) (v128 (ix3 d r l))
      = D d (128 * i + 8 * r + l / 512) (min (l % 512 + 1) 511))
    (d : Fin 4) (r : Fin 16) (l : Fin 4096) :
    k0_pay27 v10 (k0_pay7 lanes k0_pay5) (k0_pay8 lanes k0_pay5) v38 v41 v104 v110 v119 v122 v125 v128 (k0_pay26 (k0_pay7 lanes k0_pay5)) (ix3 d r l)
      = Ideal.cmp .ogt (V d (128 * i + 8 * r + l / 512) (l % 512)) (around V U D d (128 * i + 8 * r + l / 512) (l % 512)) := by
  simp only [first_at, last_at, select_ofBool] at h125 h128
  unfold Rep at h10 h38 h41 h104 h110 h119 h122
  pointwise [k0_pay27, k0_pay26]
  simp only [first_at, last_at, select_ofBool, h125, h128]
  simp only [h119, h122, h104, h110, h38, h41, h10, ofBits_neg_inf, Nat.add_comm 1 d.val]
  rfl

end Interp

end
-- ==== Proof.Solve.lean ====
/- One linear system of three equations over the reals: Cramer's rule against Gaussian elimination with partial
   pivoting. -/
module

public import Idealize.ShloMosaic.PureOps.Ideal
public import Mathlib.Tactic.FieldSimp
public import Mathlib.Tactic.Ring
public import Mathlib.Tactic.LinearCombination

@[expose] public section

noncomputable section

namespace Interp

/-- One equation `u x + v y + w z = r`, as its four numbers. -/
structure Row (α : Type) where
  u : α
  v : α
  w : α
  r : α

/-- A row chosen by a condition, entry by entry. -/
def Row.pick {α : Type} (s : Prop) [Decidable s] (p q : Row α) : Row α :=
  ⟨if s then p.u else q.u, if s then p.v else q.v, if s then p.w else q.w, if s then p.r else q.r⟩

theorem Row.pick_eq {α : Type} (s : Prop) [Decidable s] (p q : Row α) : Row.pick s p q = if s then p else q := by
  unfold Row.pick; split <;> rfl

/-- The determinant of three rows. -/
def det3 (p q t : Row ℝ) : ℝ :=
  p.u * (q.v * t.w - q.w * t.v) + p.v * (q.w * t.u - q.u * t.w) + p.w * (q.u * t.v - q.v * t.u)

/-- The point `(x, y, z)` satisfies the equation. -/
def Row.holds (p : Row ℝ) (x y z : ℝ) : Prop := p.u * x + p.v * y + p.w * z = p.r

/-- The row `q` less the multiple of `p` that clears its first entry. -/
def Row.clearU (p q : Row ℝ) : Row ℝ :=
  ⟨q.u - q.u / p.u * p.u, q.v - q.u / p.u * p.v, q.w - q.u / p.u * p.w, q.r - q.u / p.u * p.r⟩

/-- The row `q` less the multiple of `p` that clears its second entry (the first is not touched). -/
def Row.clearV (p q : Row ℝ) : Row ℝ :=
  ⟨q.u, q.v - q.v / p.v * p.v, q.w - q.v / p.v * p.w, q.r - q.v / p.v * p.r⟩

/-- Cramer's rule satisfies the first equation, -/
theorem cramer_holds₁ (p q t : Row ℝ) (h : det3 p q t ≠ 0) :
    p.holds (((q.v * t.w - q.w * t.v) * p.r + (p.w * t.v - p.v * t.w) * q.r + (p.v * q.w - p.w * q.v) * t.r) * (1 / det3 p q t))
      (((q.w * t.u - q.u * t.w) * p.r + (p.u * t.w - p.w * t.u) * q.r + (p.w * q.u - p.u * q.w) * t.r) * (1 / det3 p q t))
      (((q.u * t.v - q.v * t.u) * p.r + (p.v * t.u - p.u * t.v) * q.r + (p.u * q.v - p.v * q.u) * t.r) * (1 / det3 p q t)) := by
  have e : det3 p q t * (1 / det3 p q t) = 1 := mul_one_div_cancel h
  generalize 1 / det3 p q t = k at e
  unfold det3 at e; unfold Row.holds
  linear_combination p.r * e

/-- the second, -/
theorem cramer_holds₂ (p q t : Row ℝ) (h : det3 p q t ≠ 0) :
    q.holds (((q.v * t.w - q.w * t.v) * p.r + (p.w * t.v - p.v * t.w) * q.r + (p.v * q.w - p.w * q.v) * t.r) * (1 / det3 p q t))
      (((q.w * t.u - q.u * t.w) * p.r + (p.u * t.w - p.w * t.u) * q.r + (p.w * q.u - p.u * q.w) * t.r) * (1 / det3 p q t))
      (((q.u * t.v - q.v * t.u) * p.r + (p.v * t.u - p.u * t.v) * q.r + (p.u * q.v - p.v * q.u) * t.r) * (1 / det3 p q t)) := by
  have e : det3 p q t * (1 / det3 p q t) = 1 := mul_one_div_cancel h
  generalize 1 / det3 p q t = k at e
  unfold det3 at e; unfold Row.holds
  linear_combination q.r * e

/-- and the third. -/
theorem cramer_holds₃ (p q t : Row ℝ) (h : det3 p q t ≠ 0) :
    t.holds (((q.v * t.w - q.w * t.v) * p.r + (p.w * t.v - p.v * t.w) * q.r + (p.v * q.w - p.w * q.v) * t.r) * (1 / det3 p q t))
      (((q.w * t.u - q.u * t.w) * p.r + (p.u * t.w - p.w * t.u) * q.r + (p.w * q.u - p.u * q.w) * t.r) * (1 / det3 p q t))
      (((q.u * t.v - q.v * t.u) * p.r + (p.v * t.u - p.u * t.v) * q.r + (p.u * q.v - p.v * q.u) * t.r) * (1 / det3 p q t)) := by
  have e : det3 p q t * (1 / det3 p q t) = 1 := mul_one_div_cancel h
  generalize 1 / det3 p q t = k at e
  unfold det3 at e; unfold Row.holds
  linear_combination t.r * e

/-- Clearing the first entry keeps a solution of both equations. -/
theorem Row.clearU_holds (p q : Row ℝ) {x y z : ℝ} (hp : p.holds x y z) (hq : q.holds x y z) : (p.clearU q).holds x y z := by
  unfold Row.holds Row.clearU at *
  linear_combination hq - q.u / p.u * hp

theorem Row.clearV_holds (p q : Row ℝ) {x y z : ℝ} (hu : p.u = 0) (hp : p.holds x y z) (hq : q.holds x y z) : (p.clearV q).holds x y z := by
  unfold Row.holds Row.clearV at *
  rw [hu] at hp
  linear_combination hq - q.v / p.v * hp

/-- After the first column is cleared its entries are zero, -/
theorem Row.clearU_u (p q : Row ℝ) (h : p.u ≠ 0) : (p.clearU q).u = 0 := by
  unfold Row.clearU; simp [div_mul_cancel₀ _ h]

theorem Row.clearV_v (p q : Row ℝ) (h : p.v ≠ 0) : (p.clearV q).v = 0 := by
  unfold Row.clearV; simp [div_mul_cancel₀ _ h]

/-- and the determinant is what it was. -/
theorem det3_clearU (p q t : Row ℝ) : det3 p (p.clearU q) (p.clearU t) = det3 p q t := by
  unfold det3 Row.clearU; ring

theorem det3_clearV (o p q : Row ℝ) (hp : p.u = 0) : det3 o p (p.clearV q) = det3 o p q := by
  unfold det3 Row.clearV; rw [hp]; ring

theorem det3_swap₁₂ (p q t : Row ℝ) : det3 q p t = -det3 p q t := by unfold det3; ring
theorem det3_swap₁₃ (p q t : Row ℝ) : det3 t q p = -det3 p q t := by unfold det3; ring
theorem det3_swap₂₃ (p q t : Row ℝ) : det3 p t q = -det3 p q t := by unfold det3; ring

/-- The elimination with partial pivoting over the reals. Two exchanges bring the row of the largest first entry to the
    front, the first column is cleared, one exchange brings the larger second entry forward, the second column is
    cleared; the results are the rows of a triangular system. -/
structure Pivoted (α : Type) where
  p : Row α
  q : Row α
  t : Row α

def pivot₁ (p q t : Row ℝ) : Pivoted ℝ :=
  ⟨Row.pick (|p.u| < |q.u|) q p, Row.pick (|p.u| < |q.u|) p q, t⟩
def pivot₂ (m : Pivoted ℝ) : Pivoted ℝ :=
  ⟨Row.pick (|m.p.u| < |m.t.u|) m.t m.p, m.q, Row.pick (|m.p.u| < |m.t.u|) m.p m.t⟩
def clear₁ (m : Pivoted ℝ) : Pivoted ℝ := ⟨m.p, m.p.clearU m.q, m.p.clearU m.t⟩
def pivot₃ (m : Pivoted ℝ) : Pivoted ℝ :=
  ⟨m.p, Row.pick (|m.q.v| < |m.t.v|) m.t m.q, Row.pick (|m.q.v| < |m.t.v|) m.q m.t⟩
def clear₂ (m : Pivoted ℝ) : Pivoted ℝ := ⟨m.p, m.q, m.q.clearV m.t⟩

/-- The three rows have a solution `(x, y, z)` in common and are independent. -/
def Pivoted.Good (m : Pivoted ℝ) (x y z : ℝ) : Prop :=
  m.p.holds x y z ∧ m.q.holds x y z ∧ m.t.holds x y z ∧ det3 m.p m.q m.t ≠ 0

theorem pivot₁_good {p q t : Row ℝ} {x y z : ℝ} (h : (Pivoted.mk p q t).Good x y z) : (pivot₁ p q t).Good x y z := by
  obtain ⟨a, b, c, d⟩ := h
  unfold pivot₁; simp only [Row.pick_eq]
  split
  · exact ⟨b, a, c, by dsimp only; rw [det3_swap₁₂]; exact neg_ne_zero.mpr d⟩
  · exact ⟨a, b, c, d⟩

theorem pivot₂_good {m : Pivoted ℝ} {x y z : ℝ} (h : m.Good x y z) : (pivot₂ m).Good x y z := by
  obtain ⟨a, b, c, d⟩ := h
  unfold pivot₂; simp only [Row.pick_eq]
  split
  · exact ⟨c, b, a, by dsimp only; rw [det3_swap₁₃]; exact neg_ne_zero.mpr d⟩
  · exact ⟨a, b, c, d⟩

theorem clear₁_good {m : Pivoted ℝ} {x y z : ℝ} (h : m.Good x y z) : (clear₁ m).Good x y z := by
  obtain ⟨a, b, c, d⟩ := h
  exact ⟨a, Row.clearU_holds _ _ a b, Row.clearU_holds _ _ a c, by unfold clear₁; dsimp only; rw [det3_clearU]; exact d⟩

theorem pivot₃_good {m : Pivoted ℝ} {x y z : ℝ} (h : m.Good x y z) : (pivot₃ m).Good x y z := by
  obtain ⟨a, b, c, d⟩ := h
  unfold pivot₃; simp only [Row.pick_eq]
  split
  · exact ⟨a, c, b, by dsimp only; rw [det3_swap₂₃]; exact neg_ne_zero.mpr d⟩
  · exact ⟨a, b, c, d⟩

/-- The pivot of the first column is not zero: it is a largest of the three first entries, and were it zero, so would
    the column be, and the determinant with it. -/
theorem pivot_u_ne {p q t : Row ℝ} {x y z : ℝ} (h : (Pivoted.mk p q t).Good x y z) :
    (pivot₂ (pivot₁ p q t)).p.u ≠ 0 := by
  have g := (pivot₂_good (pivot₁_good h)).2.2.2
  intro e
  have ht : (pivot₁ p q t).t.u = t.u := rfl
  have h1 : |q.u| ≤ |(pivot₁ p q t).p.u| ∧ |p.u| ≤ |(pivot₁ p q t).p.u| := by
    unfold pivot₁; simp only [Row.pick]
    split
    · exact ⟨le_refl _, le_of_lt ‹_›⟩
    · exact ⟨not_lt.mp ‹_›, le_refl _⟩
  have h2 : |(pivot₁ p q t).p.u| ≤ |(pivot₂ (pivot₁ p q t)).p.u| ∧ |t.u| ≤ |(pivot₂ (pivot₁ p q t)).p.u| := by
    unfold pivot₂; simp only [Row.pick, ht]
    split
    · exact ⟨le_of_lt ‹_›, le_refl _⟩
    · exact ⟨le_refl _, not_lt.mp ‹_›⟩
  rw [e, abs_zero] at h2
  have z0 : ∀ a : ℝ, |a| ≤ 0 → a = 0 := fun a ha => abs_eq_zero.mp (le_antisymm ha (abs_nonneg a))
  have hp : p.u = 0 := z0 _ (h1.2.trans h2.1)
  have hq : q.u = 0 := z0 _ (h1.1.trans h2.1)
  have ht' : t.u = 0 := z0 _ h2.2
  refine h.2.2.2 ?_
  unfold det3; dsimp only; rw [hp, hq, ht']; ring

/-- The elimination, as the three unknowns it finds. -/
def elimW (m : Pivoted ℝ) : ℝ := m.t.r / m.t.w
def elimV (m : Pivoted ℝ) : ℝ := (m.q.r - m.q.w * elimW m) / m.q.v
def elimU (m : Pivoted ℝ) : ℝ := (m.p.r - m.p.v * elimV m - m.p.w * elimW m) / m.p.u

/-- The rows after the whole elimination. -/
def reduced (p q t : Row ℝ) : Pivoted ℝ := clear₂ (pivot₃ (clear₁ (pivot₂ (pivot₁ p q t))))

/-- Everything the elimination divides by is nonzero, and what it finds is the solution. -/
theorem elim_eq {p q t : Row ℝ} {x y z : ℝ} (h : (Pivoted.mk p q t).Good x y z) :
    ((reduced p q t).p.u ≠ 0 ∧ (reduced p q t).q.v ≠ 0 ∧ (reduced p q t).t.w ≠ 0)
      ∧ elimU (reduced p q t) = x ∧ elimV (reduced p q t) = y ∧ elimW (reduced p q t) = z := by
  have hu := pivot_u_ne h
  have g := clear₁_good (pivot₂_good (pivot₁_good h))
  have hpu : (clear₁ (pivot₂ (pivot₁ p q t))).p.u ≠ 0 := hu
  have hqu : (clear₁ (pivot₂ (pivot₁ p q t))).q.u = 0 := Row.clearU_u _ _ hu
  have htu : (clear₁ (pivot₂ (pivot₁ p q t))).t.u = 0 := Row.clearU_u _ _ hu
  unfold reduced
  generalize clear₁ (pivot₂ (pivot₁ p q t)) = m at g hpu hqu htu
  have g3 := pivot₃_good g
  have hpu3 : (pivot₃ m).p.u ≠ 0 := hpu
  have hqu3 : (pivot₃ m).q.u = 0 := by unfold pivot₃; simp only [Row.pick]; split <;> assumption
  have htu3 : (pivot₃ m).t.u = 0 := by unfold pivot₃; simp only [Row.pick]; split <;> assumption
  have hle : |(pivot₃ m).t.v| ≤ |(pivot₃ m).q.v| := by
    unfold pivot₃; simp only [Row.pick]
    split
    · exact le_of_lt ‹_›
    · exact not_lt.mp ‹_›
  generalize pivot₃ m = n at g3 hpu3 hqu3 htu3 hle
  obtain ⟨a, b, c, d⟩ := g3
  have hqv : n.q.v ≠ 0 := by
    intro e
    rw [e, abs_zero] at hle
    have tv : n.t.v = 0 := abs_eq_zero.mp (le_antisymm hle (abs_nonneg _))
    refine d ?_
    unfold det3; rw [e, tv, hqu3, htu3]; ring
  have c' : (clear₂ n).t.holds x y z := Row.clearV_holds _ _ hqu3 b c
  have d' : det3 n.p n.q (clear₂ n).t ≠ 0 := by
    unfold clear₂; dsimp only; rw [det3_clearV _ _ _ hqu3]; exact d
  have htv : (clear₂ n).t.v = 0 := Row.clearV_v _ _ hqv
  have htu4 : (clear₂ n).t.u = 0 := htu3
  have htw : (clear₂ n).t.w ≠ 0 := by
    intro e
    refine d' ?_
    unfold det3; rw [e, htv, htu4]; ring
  have ew : elimW (clear₂ n) = z := by
    unfold elimW
    unfold Row.holds at c'
    rw [htv, htu4] at c'
    rw [div_eq_iff htw]; linear_combination -c'
  have ev : elimV (clear₂ n) = y := by
    unfold elimV
    rw [ew]
    unfold Row.holds at b
    rw [hqu3] at b
    show (n.q.r - n.q.w * z) / n.q.v = y
    rw [div_eq_iff hqv]; linear_combination -b
  have eu : elimU (clear₂ n) = x := by
    unfold elimU
    rw [ew, ev]
    unfold Row.holds at a
    show (n.p.r - n.p.v * y - n.p.w * z) / n.p.u = x
    rw [div_eq_iff hpu3]; linear_combination -a
  exact ⟨⟨hpu3, hqv, htw⟩, eu, ev, ew⟩

end Interp

end
-- ==== Proof.Lift.lean ====
/- The elimination and Cramer's rule over the extended reals, as the two programs compute them, and what they are at
   finite entries: the real ones. -/
module

public import proofs.«01_k».proof.Proof.Solve

@[expose] public section

noncomputable section

namespace Interp

open Idealize.ShloMosaic

/-- The magnitude of an extended real. -/
def mag (x : EReal) : EReal := max x (-x)

theorem mag_coe (x : ℝ) : mag (x : EReal) = ((|x| : ℝ) : EReal) := by
  unfold mag
  rw [← EReal.coe_neg, ← EReal.coe_strictMono.monotone.map_max]; rfl

theorem mag_neg (x : EReal) : mag (-x) = mag x := by
  unfold mag; rw [neg_neg, max_comm]

/-- Division of a finite value by a finite nonzero one. -/
theorem div_coe_coe (x : ℝ) {y : ℝ} (h : y ≠ 0) : Ideal.div (x : EReal) (y : EReal) = ((x / y : ℝ) : EReal) := by
  rw [Ideal.div_coe h, ← EReal.coe_mul, mul_one_div]

/-- A row of reals among the rows of extended reals. -/
def Row.lift (p : Row ℝ) : Row EReal := ⟨p.u, p.v, p.w, p.r⟩

def Pivoted.lift (m : Pivoted ℝ) : Pivoted EReal := ⟨m.p.lift, m.q.lift, m.t.lift⟩

theorem Row.lift_pick (s : Prop) [Decidable s] (p q : Row ℝ) : (Row.pick s p q).lift = Row.pick s p.lift q.lift := by
  rw [Row.pick_eq, Row.pick_eq]; split <;> rfl

/-- The steps of the elimination over the extended reals. -/
def xpivot₁ (p q t : Row EReal) : Pivoted EReal :=
  ⟨Row.pick (mag p.u < mag q.u) q p, Row.pick (mag p.u < mag q.u) p q, t⟩
def xpivot₂ (m : Pivoted EReal) : Pivoted EReal :=
  ⟨Row.pick (mag m.p.u < mag m.t.u) m.t m.p, m.q, Row.pick (mag m.p.u < mag m.t.u) m.p m.t⟩
def xclear₁ (m : Pivoted EReal) : Pivoted EReal :=
  ⟨m.p,
   ⟨m.q.u - Ideal.div m.q.u m.p.u * m.p.u, m.q.v - Ideal.div m.q.u m.p.u * m.p.v,
    m.q.w - Ideal.div m.q.u m.p.u * m.p.w, m.q.r - Ideal.div m.q.u m.p.u * m.p.r⟩,
   ⟨m.t.u - Ideal.div m.t.u m.p.u * m.p.u, m.t.v - Ideal.div m.t.u m.p.u * m.p.v,
    m.t.w - Ideal.div m.t.u m.p.u * m.p.w, m.t.r - Ideal.div m.t.u m.p.u * m.p.r⟩⟩
def xpivot₃ (m : Pivoted EReal) : Pivoted EReal :=
  ⟨m.p, Row.pick (mag m.q.v < mag m.t.v) m.t m.q, Row.pick (mag m.q.v < mag m.t.v) m.q m.t⟩
def xclear₂ (m : Pivoted EReal) : Pivoted EReal :=
  ⟨m.p, m.q,
   ⟨m.t.u, m.t.v - Ideal.div m.t.v m.q.v * m.q.v, m.t.w - Ideal.div m.t.v m.q.v * m.q.w,
    m.t.r - Ideal.div m.t.v m.q.v * m.q.r⟩⟩

/-- The rows after the whole elimination, and the three unknowns it finds. -/
def xreduced (p q t : Row EReal) : Pivoted EReal := xclear₂ (xpivot₃ (xclear₁ (xpivot₂ (xpivot₁ p q t))))
def xelimW (m : Pivoted EReal) : EReal := Ideal.div m.t.r m.t.w
def xelimV (m : Pivoted EReal) : EReal := Ideal.div (m.q.r - m.q.w * xelimW m) m.q.v
def xelimU (m : Pivoted EReal) : EReal := Ideal.div (m.p.r - m.p.v * xelimV m - m.p.w * xelimW m) m.p.u

theorem xpivot₁_lift (p q t : Row ℝ) : xpivot₁ p.lift q.lift t.lift = (pivot₁ p q t).lift := by
  unfold xpivot₁ pivot₁ Pivoted.lift
  have e : (mag p.lift.u < mag q.lift.u) = (|p.u| < |q.u|) := by
    show (mag (p.u : EReal) < mag (q.u : EReal)) = _
    rw [mag_coe, mag_coe, EReal.coe_lt_coe_iff]
  simp only [e, Row.pick_eq]
  split <;> rfl

theorem xpivot₂_lift (m : Pivoted ℝ) : xpivot₂ m.lift = (pivot₂ m).lift := by
  unfold xpivot₂ pivot₂ Pivoted.lift
  have e : (mag m.p.lift.u < mag m.t.lift.u) = (|m.p.u| < |m.t.u|) := by
    show (mag (m.p.u : EReal) < mag (m.t.u : EReal)) = _
    rw [mag_coe, mag_coe, EReal.coe_lt_coe_iff]
  simp only [e, Row.pick_eq]
  split <;> rfl

theorem xpivot₃_lift (m : Pivoted ℝ) : xpivot₃ m.lift = (pivot₃ m).lift := by
  unfold xpivot₃ pivot₃ Pivoted.lift
  have e : (mag m.q.lift.v < mag m.t.lift.v) = (|m.q.v| < |m.t.v|) := by
    show (mag (m.q.v : EReal) < mag (m.t.v : EReal)) = _
    rw [mag_coe, mag_coe, EReal.coe_lt_coe_iff]
  simp only [e, Row.pick_eq]
  split <;> rfl

theorem xclear₁_lift (m : Pivoted ℝ) (h : m.p.u ≠ 0) : xclear₁ m.lift = (clear₁ m).lift := by
  unfold xclear₁ clear₁ Pivoted.lift Row.lift Row.clearU
  simp only [div_coe_coe _ h, ← EReal.coe_mul, ← EReal.coe_sub]

theorem xclear₂_lift (m : Pivoted ℝ) (h : m.q.v ≠ 0) : xclear₂ m.lift = (clear₂ m).lift := by
  unfold xclear₂ clear₂ Pivoted.lift Row.lift Row.clearV
  simp only [div_coe_coe _ h, ← EReal.coe_mul, ← EReal.coe_sub]

/-- Three independent equations with real coefficients: the elimination over the extended reals finds their solution. -/
theorem xelim_eq {p q t : Row ℝ} {x y z : ℝ} (h : (Pivoted.mk p q t).Good x y z) :
    xelimU (xreduced p.lift q.lift t.lift) = x ∧ xelimV (xreduced p.lift q.lift t.lift) = y
      ∧ xelimW (xreduced p.lift q.lift t.lift) = z := by
  obtain ⟨⟨hu, hv, hw⟩, eu, ev, ew⟩ := elim_eq h
  have hr : xreduced p.lift q.lift t.lift = (reduced p q t).lift := by
    unfold xreduced reduced
    rw [xpivot₁_lift, xpivot₂_lift, xclear₁_lift _ (pivot_u_ne h), xpivot₃_lift]
    exact xclear₂_lift _ hv
  rw [hr]
  generalize reduced p q t = m at hu hv hw eu ev ew
  have kw : xelimW m.lift = z := by
    rw [← ew]; exact div_coe_coe _ hw
  have kv : xelimV m.lift = y := by
    unfold xelimV; rw [kw, ← ev]; unfold elimV; rw [ew, ← div_coe_coe _ hv, EReal.coe_sub, EReal.coe_mul]; rfl
  have ku : xelimU m.lift = x := by
    unfold xelimU; rw [kw, kv, ← eu]; unfold elimU
    rw [ew, ev, ← div_coe_coe _ hu, EReal.coe_sub, EReal.coe_sub, EReal.coe_mul, EReal.coe_mul]; rfl
  exact ⟨ku, kv, kw⟩

/-- Cramer's rule over the extended reals: the determinant, and the three unknowns with its reciprocal as a factor. -/
def xdet (p q t : Row EReal) : EReal :=
  p.u * (q.v * t.w - q.w * t.v) + p.v * (q.w * t.u - q.u * t.w) + p.w * (q.u * t.v - q.v * t.u)
def xcramerU (p q t : Row EReal) : EReal :=
  ((q.v * t.w - q.w * t.v) * p.r + (p.w * t.v - p.v * t.w) * q.r + (p.v * q.w - p.w * q.v) * t.r) * Ideal.div 1 (xdet p q t)
def xcramerV (p q t : Row EReal) : EReal :=
  ((q.w * t.u - q.u * t.w) * p.r + (p.u * t.w - p.w * t.u) * q.r + (p.w * q.u - p.u * q.w) * t.r) * Ideal.div 1 (xdet p q t)
def xcramerW (p q t : Row EReal) : EReal :=
  ((q.u * t.v - q.v * t.u) * p.r + (p.v * t.u - p.u * t.v) * q.r + (p.u * q.v - p.v * q.u) * t.r) * Ideal.div 1 (xdet p q t)

theorem xdet_lift (p q t : Row ℝ) : xdet p.lift q.lift t.lift = (det3 p q t : ℝ) := by
  unfold xdet det3 Row.lift
  simp only [EReal.coe_mul, EReal.coe_sub, EReal.coe_add]

/-- At real coefficients and a determinant that is not zero, Cramer's rule and the elimination agree. -/
theorem cramer_eq_elim (p q t : Row ℝ) (h : det3 p q t ≠ 0) :
    xcramerU p.lift q.lift t.lift = xelimU (xreduced p.lift q.lift t.lift)
      ∧ xcramerV p.lift q.lift t.lift = xelimV (xreduced p.lift q.lift t.lift)
      ∧ xcramerW p.lift q.lift t.lift = xelimW (xreduced p.lift q.lift t.lift) := by
  obtain ⟨eu, ev, ew⟩ := xelim_eq ⟨cramer_holds₁ p q t h, cramer_holds₂ p q t h, cramer_holds₃ p q t h, h⟩
  have one : Ideal.div 1 ((det3 p q t : ℝ) : EReal) = ((1 / det3 p q t : ℝ) : EReal) := by
    rw [← EReal.coe_one]; exact div_coe_coe 1 h
  rw [eu, ev, ew]
  unfold xcramerU xcramerV xcramerW
  rw [xdet_lift, one]
  unfold Row.lift
  simp only [EReal.coe_mul, EReal.coe_sub, EReal.coe_add, and_self]

end Interp

end
-- ==== Proof.Voxel.lean ====
/- What both programs compute at one voxel: the perturbed Hessian with the gradient as three equations, in the kernel's
   arrangement and in the reference's; the offset found; the three coordinates and the value. -/
module

public import proofs.«01_k».proof.Proof.Lift
public import proofs.«01_k».proof.Proof.Shift

@[expose] public section

noncomputable section

namespace Interp

open Idealize.ShloMosaic

/-- The constants of the two programs. -/
def half : EReal := Ideal.ofBits .f32 0x3F000000#32
def quarter : EReal := Ideal.ofBits .f32 0x3E800000#32
def two : EReal := Ideal.ofBits .f32 0x40000000#32
def ten : EReal := Ideal.ofBits .f32 0x41200000#32

theorem half_eq : half = ((1 / 2 : ℝ) : EReal) := by
  unfold half; simp [Ideal.ofBits, Ideal.ieee, -EReal.coe_mul]; norm_num
theorem quarter_eq : quarter = ((1 / 4 : ℝ) : EReal) := by
  unfold quarter; simp [Ideal.ofBits, Ideal.ieee, -EReal.coe_mul]; norm_num
theorem two_eq : two = ((2 : ℝ) : EReal) := by
  unfold two; simp [Ideal.ofBits, Ideal.ieee, -EReal.coe_mul]; norm_num

/-- A perturbation for each entry of the Hessian. -/
abbrev Perturb := Fin 3 → Fin 3 → EReal

/-- The three equations of the voxel (d, h, w) as the kernel arranges them. -/
def kernelRow₁ (V : Field) (p : Perturb) (d h w : ℕ) : Row EReal :=
  ⟨V (min (d + 1) 3) h w + V (d - 1) h w - two * V d h w + p 0 0,
   quarter * ((V (min (d + 1) 3) (min (h + 1) 511) w - V (min (d + 1) 3) (h - 1) w)
     - (V (d - 1) (min (h + 1) 511) w - V (d - 1) (h - 1) w)) + p 0 1,
   quarter * ((V (min (d + 1) 3) h (min (w + 1) 511) - V (min (d + 1) 3) h (w - 1))
     - (V (d - 1) h (min (w + 1) 511) - V (d - 1) h (w - 1))) + p 0 2,
   half * (V (min (d + 1) 3) h w - V (d - 1) h w)⟩
def kernelRow₂ (V : Field) (p : Perturb) (d h w : ℕ) : Row EReal :=
  ⟨quarter * ((V (min (d + 1) 3) (min (h + 1) 511) w - V (min (d + 1) 3) (h - 1) w)
     - (V (d - 1) (min (h + 1) 511) w - V (d - 1) (h - 1) w)) + p 1 0,
   V d (min (h + 1) 511) w + V d (h - 1) w - two * V d h w + p 1 1,
   quarter * ((V d (min (h + 1) 511) (min (w + 1) 511) - V d (min (h + 1) 511) (w - 1))
     - (V d (h - 1) (min (w + 1) 511) - V d (h - 1) (w - 1))) + p 1 2,
   half * (V d (min (h + 1) 511) w - V d (h - 1) w)⟩
def kernelRow₃ (V : Field) (p : Perturb) (d h w : ℕ) : Row EReal :=
  ⟨quarter * ((V (min (d + 1) 3) h (min (w + 1) 511) - V (min (d + 1) 3) h (w - 1))
     - (V (d - 1) h (min (w + 1) 511) - V (d - 1) h (w - 1))) + p 2 0,
   quarter * ((V d (min (h + 1) 511) (min (w + 1) 511) - V d (min (h + 1) 511) (w - 1))
     - (V d (h - 1) (min (w + 1) 511) - V d (h - 1) (w - 1))) + p 2 1,
   V (min (d + 1) 3) h w + V (d - 1) h w - two * V d h w + p 2 2,
   half * (V d h (min (w + 1) 511) - V d h (w - 1))⟩

/-- The same equations as the reference arranges them. -/
def refRow₁ (V : Field) (p : Perturb) (d h w : ℕ) : Row EReal :=
  ⟨V (min (d + 1) 3) h w - two * V d h w + V (d - 1) h w + p 0 0,
   quarter * (V (min (d + 1) 3) (min (h + 1) 511) w - V (min (d + 1) 3) (h - 1) w
     - V (d - 1) (min (h + 1) 511) w + V (d - 1) (h - 1) w) + p 0 1,
   quarter * (V (min (d + 1) 3) h (min (w + 1) 511) - V (min (d + 1) 3) h (w - 1)
     - V (d - 1) h (min (w + 1) 511) + V (d - 1) h (w - 1)) + p 0 2,
   half * (V (min (d + 1) 3) h w - V (d - 1) h w)⟩
def refRow₂ (V : Field) (p : Perturb) (d h w : ℕ) : Row EReal :=
  ⟨quarter * (V (min (d + 1) 3) (min (h + 1) 511) w - V (min (d + 1) 3) (h - 1) w
     - V (d - 1) (min (h + 1) 511) w + V (d - 1) (h - 1) w) + p 1 0,
   V d (min (h + 1) 511) w - two * V d h w + V d (h - 1) w + p 1 1,
   quarter * (V d (min (h + 1) 511) (min (w + 1) 511) - V d (min (h + 1) 511) (w - 1)
     - V d (h - 1) (min (w + 1) 511) + V d (h - 1) (w - 1)) + p 1 2,
   half * (V d (min (h + 1) 511) w - V d (h - 1) w)⟩
def refRow₃ (V : Field) (p : Perturb) (d h w : ℕ) : Row EReal :=
  ⟨quarter * (V (min (d + 1) 3) h (min (w + 1) 511) - V (min (d + 1) 3) h (w - 1)
     - V (d - 1) h (min (w + 1) 511) + V (d - 1) h (w - 1)) + p 2 0,
   quarter * (V d (min (h + 1) 511) (min (w + 1) 511) - V d (min (h + 1) 511) (w - 1)
     - V d (h - 1) (min (w + 1) 511) + V d (h - 1) (w - 1)) + p 2 1,
   V (min (d + 1) 3) h w - two * V d h w + V (d - 1) h w + p 2 2,
   half * (V d h (min (w + 1) 511) - V d h (w - 1))⟩

/-- A volume and a perturbation whose values are real numbers. -/
def Finite (V : Field) : Prop := ∃ X : ℕ → ℕ → ℕ → ℝ, V = fun d h w => (X d h w : EReal)
def FiniteP (p : Perturb) : Prop := ∃ P : Fin 3 → Fin 3 → ℝ, p = fun r c => (P r c : EReal)

/-- Over real values the two arrangements are the same real rows. -/
theorem rows_eq {V : Field} {p : Perturb} (hV : Finite V) (hp : FiniteP p) (d h w : ℕ) :
    ∃ a b c : Row ℝ,
      (kernelRow₁ V p d h w = a.lift ∧ kernelRow₂ V p d h w = b.lift ∧ kernelRow₃ V p d h w = c.lift)
        ∧ refRow₁ V p d h w = a.lift ∧ refRow₂ V p d h w = b.lift ∧ refRow₃ V p d h w = c.lift := by
  obtain ⟨X, rfl⟩ := hV
  obtain ⟨P, rfl⟩ := hp
  unfold kernelRow₁ kernelRow₂ kernelRow₃ refRow₁ refRow₂ refRow₃ Row.lift
  simp only [half_eq, quarter_eq, two_eq, ← EReal.coe_mul, ← EReal.coe_sub, ← EReal.coe_add, Row.mk.injEq]
  refine ⟨⟨_, _, _, _⟩, ⟨_, _, _, _⟩, ⟨_, _, _, _⟩, ⟨⟨rfl, rfl, rfl, rfl⟩, ⟨rfl, rfl, rfl, rfl⟩, ⟨rfl, rfl, rfl, rfl⟩⟩,
    ⟨?_, ?_, ?_, rfl⟩, ⟨?_, ?_, ?_, rfl⟩, ⟨?_, ?_, ?_, rfl⟩⟩ <;> (rw [EReal.coe_eq_coe_iff]; ring)

/-- The offset of the voxel by Cramer's rule, as the kernel finds it. -/
def kernelS₁ (V : Field) (p : Perturb) (d h w : ℕ) : EReal := xcramerU (kernelRow₁ V p d h w) (kernelRow₂ V p d h w) (kernelRow₃ V p d h w)
def kernelS₂ (V : Field) (p : Perturb) (d h w : ℕ) : EReal := xcramerV (kernelRow₁ V p d h w) (kernelRow₂ V p d h w) (kernelRow₃ V p d h w)
def kernelS₃ (V : Field) (p : Perturb) (d h w : ℕ) : EReal := xcramerW (kernelRow₁ V p d h w) (kernelRow₂ V p d h w) (kernelRow₃ V p d h w)

/-- The reduced system of the voxel, and its offset by elimination, as the reference finds it. -/
def refReduced (V : Field) (p : Perturb) (d h w : ℕ) : Pivoted EReal :=
  xreduced (refRow₁ V p d h w) (refRow₂ V p d h w) (refRow₃ V p d h w)
def refS₁ (V : Field) (p : Perturb) (d h w : ℕ) : EReal := xelimU (refReduced V p d h w)
def refS₂ (V : Field) (p : Perturb) (d h w : ℕ) : EReal := xelimV (refReduced V p d h w)
def refS₃ (V : Field) (p : Perturb) (d h w : ℕ) : EReal := xelimW (refReduced V p d h w)

/-- The determinant of the reference's system, row by row along the first. -/
def refDet (V : Field) (p : Perturb) (d h w : ℕ) : EReal :=
  let a := refRow₁ V p d h w; let b := refRow₂ V p d h w; let c := refRow₃ V p d h w
  a.u * (b.v * c.w - b.w * c.v) - a.v * (b.u * c.w - b.w * c.u) + a.w * (b.u * c.v - b.v * c.u)

/-- Where the volume is real and the determinant is not zero the two offsets are the same. -/
theorem offsets_eq {V : Field} {p : Perturb} (hV : Finite V) (hp : FiniteP p) {d h w : ℕ} (hdet : refDet V p d h w ≠ 0) :
    kernelS₁ V p d h w = refS₁ V p d h w ∧ kernelS₂ V p d h w = refS₂ V p d h w ∧ kernelS₃ V p d h w = refS₃ V p d h w := by
  obtain ⟨a, b, c, ⟨k₁, k₂, k₃⟩, r₁, r₂, r₃⟩ := rows_eq hV hp d h w
  have hd : det3 a b c ≠ 0 := by
    intro e
    refine hdet ?_
    unfold refDet
    rw [r₁, r₂, r₃]
    unfold Row.lift
    simp only [← EReal.coe_mul, ← EReal.coe_sub, ← EReal.coe_add]
    rw [← EReal.coe_zero, EReal.coe_eq_coe_iff, ← e]
    unfold det3; ring
  unfold kernelS₁ kernelS₂ kernelS₃ refS₁ refS₂ refS₃ refReduced
  rw [k₁, k₂, k₃, r₁, r₂, r₃]
  exact cramer_eq_elim a b c hd

/-- Whether the voxel's offset is taken: a strict maximum whose offset is within half a voxel. -/
def taken (n : BitVec 1) (s₁ s₂ s₃ : EReal) : BitVec 1 :=
  IntOp.andi n (Ideal.cmp .olt (max (max (mag s₁) (mag s₂)) (mag s₃)) half)

/-- The offset where it is taken, and zero elsewhere. -/
def moved (c : BitVec 1) (s : EReal) : EReal := Scalar.select c (-s) 0

/-- One where the offset is taken. -/
def flag (c : BitVec 1) : EReal := if c = 1#1 then 1 else 0

/-- The voxel's new value, from its old one, the gradient and the offset. -/
def value (x b₁ b₂ b₃ : EReal) (c : BitVec 1) (s₁ s₂ s₃ : EReal) : EReal :=
  x + half * (b₁ * moved c s₁ + b₂ * moved c s₂ + b₃ * moved c s₃) + ten * flag c

/-- A small word as a number. -/
def number (n : ℕ) : EReal := (((n : ℝ)) : EReal)

end Interp

end
-- ==== Proof.Tile.lean ====
/- The kernel's body on one tile: the values it names, from what it loads, and what each is at a voxel of the volume. -/
module

public import proofs.«01_k».proof.Proof.Maxima
public import proofs.«01_k».proof.Proof.Voxel

@[expose] public section

set_option maxRecDepth 16384

noncomputable section

namespace Interp

open Idealize.ShloMosaic Idealize.SL Cert.KernelIdeal Cert.KernelIdeal.Gen

/-- What the body loads at one grid point: the tile's number, its rows, the halo rows above and below, the perturbation. -/
structure Loads where
  tile : BitVec 32
  x : Vec Ideal S1x4x16x4096 .f32
  top : Vec Ideal S1x4x1x1x512 .f32
  bot : Vec Ideal S1x4x1x1x512 .f32
  p : Perturb

/-! The values of the body, in its order: the tile and its neighbours, the test for maxima, the gradient, the entries of
the Hessian, cofactors, the offset, the four blocks stored. -/

def Loads.xc (L : Loads) : FVec Ideal S4x16x4096 .f32 := k0_pay2 L.x
def Loads.xu (L : Loads) : FVec Ideal S4x16x4096 .f32 := k0_pay3 L.x L.top
def Loads.xd (L : Loads) : FVec Ideal S4x16x4096 .f32 := k0_pay4 L.x L.bot
def wpos : IVec S1x1x4096 32 := k0_pay6 lanes k0_pay5
def isFirst : IVec S1x1x4096 1 := k0_pay7 lanes k0_pay5
def isLast : IVec S1x1x4096 1 := k0_pay8 lanes k0_pay5
def Loads.xcl (L : Loads) : FVec Ideal S4x16x4096 .f32 := k0_pay9 L.xc lanes k0_pay5
def Loads.xcr (L : Loads) : FVec Ideal S4x16x4096 .f32 := k0_pay10 L.xc lanes k0_pay5
def Loads.xul (L : Loads) : FVec Ideal S4x16x4096 .f32 := k0_pay11 L.xu lanes k0_pay5
def Loads.xur (L : Loads) : FVec Ideal S4x16x4096 .f32 := k0_pay12 L.xu lanes k0_pay5
def Loads.xdl (L : Loads) : FVec Ideal S4x16x4096 .f32 := k0_pay13 L.xd lanes k0_pay5
def Loads.xdr (L : Loads) : FVec Ideal S4x16x4096 .f32 := k0_pay14 L.xd lanes k0_pay5
def Loads.hio (L : Loads) : IVec S1x16x4096 32 := k0_pay19 lanes (k0_pay15 L.tile) 512#32 (k0_pay16 lanes) (k0_pay17 lanes) k0_pay18
def Loads.xuM (L : Loads) : FVec Ideal S4x16x4096 .f32 := k0_pay20 L.xu lanes (k0_pay15 L.tile) 512#32 (k0_pay16 lanes) (k0_pay17 lanes) k0_pay18
def Loads.xdM (L : Loads) : FVec Ideal S4x16x4096 .f32 := k0_pay21 L.xd lanes (k0_pay15 L.tile) 512#32 (k0_pay16 lanes) (k0_pay17 lanes) k0_pay18
def Loads.xulM (L : Loads) : FVec Ideal S4x16x4096 .f32 := k0_pay22 L.xu lanes isFirst (k0_pay15 L.tile) 512#32 (k0_pay16 lanes) (k0_pay17 lanes) k0_pay18
def Loads.xurM (L : Loads) : FVec Ideal S4x16x4096 .f32 := k0_pay23 L.xu lanes isLast (k0_pay15 L.tile) 512#32 (k0_pay16 lanes) (k0_pay17 lanes) k0_pay18
def Loads.xdlM (L : Loads) : FVec Ideal S4x16x4096 .f32 := k0_pay24 L.xd lanes (k0_pay15 L.tile) 512#32 (k0_pay16 lanes) (k0_pay17 lanes) k0_pay18
def Loads.xdrM (L : Loads) : FVec Ideal S4x16x4096 .f32 := k0_pay25 L.xd lanes (k0_pay15 L.tile) 512#32 (k0_pay16 lanes) (k0_pay17 lanes) k0_pay18
def Loads.nms (L : Loads) : IVec S4x16x4096 1 := k0_pay27 L.xc isFirst isLast L.xcl L.xcr L.xuM L.xdM L.xulM L.xurM L.xdlM L.xdrM (k0_pay26 isFirst)
def Loads.xcF (L : Loads) : FVec Ideal S4x16x4096 .f32 := k0_pay30 L.xc
def Loads.xcB (L : Loads) : FVec Ideal S4x16x4096 .f32 := k0_pay31 L.xc
def Loads.uhF (L : Loads) : FVec Ideal S4x16x4096 .f32 := k0_pay32 L.xu L.xd
def Loads.uhB (L : Loads) : FVec Ideal S4x16x4096 .f32 := k0_pay33 L.xu L.xd
def Loads.u1F (L : Loads) : FVec Ideal S4x16x4096 .f32 := k0_pay34 L.xcl L.xcr
def Loads.u1B (L : Loads) : FVec Ideal S4x16x4096 .f32 := k0_pay35 L.xcl L.xcr
def Loads.dxg (L : Loads) : FVec Ideal S4x16x4096 .f32 := k0_pay36 L.xcl L.xcr
def Loads.dyg (L : Loads) : FVec Ideal S4x16x4096 .f32 := k0_pay37 L.xu L.xd
def Loads.dsg (L : Loads) : FVec Ideal S4x16x4096 .f32 := k0_pay39 (k0_pay38 L.xc) (Scalar.ofBits .f32 0x3F000000#32)
def Loads.a11 (L : Loads) : FVec Ideal S4x16x4096 .f32 := k0_pay44 (L.p 0 0) L.xc L.xcF L.xcB
def Loads.a12 (L : Loads) : FVec Ideal S4x16x4096 .f32 := k0_pay45 (L.p 0 1) L.uhF L.uhB
def Loads.a13 (L : Loads) : FVec Ideal S4x16x4096 .f32 := k0_pay46 (L.p 0 2) L.u1F L.u1B
def Loads.a21 (L : Loads) : FVec Ideal S4x16x4096 .f32 := k0_pay47 (L.p 1 0) L.uhF L.uhB
def Loads.a22 (L : Loads) : FVec Ideal S4x16x4096 .f32 := k0_pay48 (L.p 1 1) L.xc L.xu L.xd
def Loads.a23 (L : Loads) : FVec Ideal S4x16x4096 .f32 := k0_pay49 (L.p 1 2) L.xul L.xur L.xdl L.xdr
def Loads.a32 (L : Loads) : FVec Ideal S4x16x4096 .f32 := k0_pay51 (L.p 2 1) L.xul L.xur L.xdl L.xdr
def Loads.cof11 (L : Loads) : FVec Ideal S4x16x4096 .f32 := k0_pay53 (L.p 1 1) (L.p 1 2) (L.p 2 1) (L.p 2 2) L.xc L.xu L.xd L.xul L.xur L.xdl L.xdr L.xcF L.xcB
def Loads.cof12 (L : Loads) : FVec Ideal S4x16x4096 .f32 := k0_pay54 (L.p 1 0) (L.p 1 2) (L.p 2 0) (L.p 2 2) L.xc L.xul L.xur L.xdl L.xdr L.xcF L.xcB L.uhF L.uhB L.u1F L.u1B
def Loads.cof13 (L : Loads) : FVec Ideal S4x16x4096 .f32 := k0_pay55 (L.p 1 0) (L.p 1 1) (L.p 2 0) (L.p 2 1) L.xc L.xu L.xd L.xul L.xur L.xdl L.xdr L.uhF L.uhB L.u1F L.u1B
def Loads.cof21 (L : Loads) : FVec Ideal S4x16x4096 .f32 := k0_pay56 (L.p 0 1) (L.p 0 2) (L.p 2 1) (L.p 2 2) L.xc L.xul L.xur L.xdl L.xdr L.xcF L.xcB L.uhF L.uhB L.u1F L.u1B
def Loads.cof22 (L : Loads) : FVec Ideal S4x16x4096 .f32 := k0_pay57 (L.p 0 0) (L.p 0 2) (L.p 2 0) (L.p 2 2) L.xc L.xcF L.xcB L.u1F L.u1B
def Loads.a12a31 (L : Loads) : FVec Ideal S4x16x4096 .f32 := k0_pay58 (L.p 0 1) (L.p 2 0) L.uhF L.uhB L.u1F L.u1B
def Loads.s1 (L : Loads) : FVec Ideal S4x16x4096 .f32 := k0_pay60 L.dxg L.dyg L.dsg L.a11 L.a12 L.a13 L.a22 L.a23 L.cof11 L.cof12 L.cof13 L.cof21
def Loads.s2 (L : Loads) : FVec Ideal S4x16x4096 .f32 := k0_pay61 L.dxg L.dyg L.dsg L.a11 L.a12 L.a13 L.a21 L.a23 L.cof11 L.cof12 L.cof13 L.cof22
def Loads.s3 (L : Loads) : FVec Ideal S4x16x4096 .f32 := k0_pay62 L.dxg L.dyg L.dsg L.a11 L.a12 L.a13 L.a21 L.a22 L.a32 L.cof11 L.cof12 L.cof13 L.a12a31
def Loads.conv (L : Loads) : IVec S4x16x4096 1 := k0_pay63 L.nms L.dxg L.dyg L.dsg L.a11 L.a12 L.a13 L.a21 L.a22 L.a23 L.a32 L.cof11 L.cof12 L.cof13 L.cof21 L.cof22 L.a12a31
def Loads.d1 (L : Loads) : FVec Ideal S4x16x4096 .f32 := k0_pay64 L.nms L.dxg L.dyg L.dsg L.a11 L.a12 L.a13 L.a21 L.a22 L.a23 L.a32 L.cof11 L.cof12 L.cof13 L.cof21 L.cof22 L.a12a31
def Loads.d2 (L : Loads) : FVec Ideal S4x16x4096 .f32 := k0_pay65 L.nms L.dxg L.dyg L.dsg L.a11 L.a12 L.a13 L.a21 L.a22 L.a23 L.a32 L.cof11 L.cof12 L.cof13 L.cof21 L.cof22 L.a12a31
def Loads.yOut (L : Loads) : FVec Ideal S1x1x4x16x4096 .f32 := k0_pay68 L.xc L.dxg L.dyg L.dsg L.s3 L.conv L.d1 L.d2 k0_pay66
def Loads.c1Out (L : Loads) : FVec Ideal S1x1x1x4x16x4096 .f32 := k0_pay69 L.d1
def Loads.c2Out (L : Loads) : FVec Ideal S1x1x1x4x16x4096 .f32 := k0_pay70 L.hio L.d2
def Loads.c3Out (L : Loads) : FVec Ideal S1x1x1x4x16x4096 .f32 := k0_pay1 (k0_pay71 wpos L.s3 L.conv k0_pay66)

/-- The loads are those of the tile `i` of the volume `V`. -/
structure Loads.Of (L : Loads) (i : ℕ) (V : Field) : Prop where
  lt : i < 4
  tile : L.tile = BitVec.ofNat 32 i
  x : ∀ (d : Fin 4) (r : Fin 16) (l : Fin 4096), L.x (ix4 0 d r l) = V d (128 * i + 8 * r + l / 512) (l % 512)
  top : ∀ (d : Fin 4) (w : Fin 512), L.top (ix5 0 d 0 0 w) = V d (128 * i - 1) w
  bot : ∀ (d : Fin 4) (w : Fin 512), L.bot (ix5 0 d 0 0 w) = V d (min (128 * i + 128) 511) w

variable {L : Loads} {i : ℕ} {V : Field}

theorem Loads.Of.xc (h : L.Of i V) : Rep i L.xc V := rep_load h.x
theorem Loads.Of.xu (h : L.Of i V) : Rep i L.xu (fun d h w => V d (h - 1) w) := rep_up h.x h.top
theorem Loads.Of.xd (h : L.Of i V) : Rep i L.xd (fun d h w => V d (min (h + 1) 511) w) := rep_down h.lt h.x h.bot
theorem Loads.Of.xcl (h : L.Of i V) : Rep i L.xcl (fun d h w => V d h (w - 1)) := h.xc.left
theorem Loads.Of.xcr (h : L.Of i V) : Rep i L.xcr (fun d h w => V d h (min (w + 1) 511)) := h.xc.right
theorem Loads.Of.xul (h : L.Of i V) : Rep i L.xul (fun d h w => V d (h - 1) (w - 1)) := h.xu.left
theorem Loads.Of.xur (h : L.Of i V) : Rep i L.xur (fun d h w => V d (h - 1) (min (w + 1) 511)) := h.xu.right
theorem Loads.Of.xdl (h : L.Of i V) : Rep i L.xdl (fun d h w => V d (min (h + 1) 511) (w - 1)) := h.xd.left
theorem Loads.Of.xdr (h : L.Of i V) : Rep i L.xdr (fun d h w => V d (min (h + 1) 511) (min (w + 1) 511)) := h.xd.right
theorem Loads.Of.xuM (h : L.Of i V) : Rep i L.xuM (above V) := by
  unfold Loads.xuM; rw [h.tile]; exact h.xu.maskAbove h.lt
theorem Loads.Of.xdM (h : L.Of i V) : Rep i L.xdM (below V) := by
  unfold Loads.xdM; rw [h.tile]; exact h.xd.maskBelow h.lt
theorem Loads.Of.xulM (h : L.Of i V) : Rep i L.xulM (fun d h w => above V d h (w - 1)) := h.xuM.left
theorem Loads.Of.xurM (h : L.Of i V) : Rep i L.xurM (fun d h w => above V d h (min (w + 1) 511)) := h.xuM.right
theorem Loads.Of.xcF (h : L.Of i V) : Rep i L.xcF (fun d h w => V (d - 1) h w) := h.xc.front
theorem Loads.Of.xcB (h : L.Of i V) : Rep i L.xcB (fun d h w => V (min (d + 1) 3) h w) := h.xc.back

/-- A difference of two vectors is the difference of what they hold. -/
theorem Rep.sub {v w : FVec Ideal S4x16x4096 .f32} {U W : Field} (hv : Rep i v U) (hw : Rep i w W) :
    Rep i (subf v w) (fun a b c => U a b c - W a b c) := by
  intro d r l
  show v (ix3 d r l) - w (ix3 d r l) = _
  rw [hv, hw]

theorem Loads.Of.uhF (h : L.Of i V) : Rep i L.uhF (fun d h w => V (d - 1) (min (h + 1) 511) w - V (d - 1) (h - 1) w) :=
  (h.xd.sub h.xu).front
theorem Loads.Of.uhB (h : L.Of i V) :
    Rep i L.uhB (fun d h w => V (min (d + 1) 3) (min (h + 1) 511) w - V (min (d + 1) 3) (h - 1) w) :=
  (h.xd.sub h.xu).back
theorem Loads.Of.u1F (h : L.Of i V) : Rep i L.u1F (fun d h w => V (d - 1) h (min (w + 1) 511) - V (d - 1) h (w - 1)) :=
  (h.xcr.sub h.xcl).front
theorem Loads.Of.u1B (h : L.Of i V) :
    Rep i L.u1B (fun d h w => V (min (d + 1) 3) h (min (w + 1) 511) - V (min (d + 1) 3) h (w - 1)) :=
  (h.xcr.sub h.xcl).back

/-- The test for maxima is the comparison with the greatest of the twenty-six neighbours. -/
theorem Loads.Of.nms (h : L.Of i V) (d : Fin 4) (r : Fin 16) (l : Fin 4096) :
    L.nms (ix3 d r l) = Ideal.cmp .ogt (V d (128 * i + 8 * r + l / 512) (l % 512))
      (neighbours (padded V) d (128 * i + 8 * r + l / 512) (l % 512)) := by
  have hr := r.isLt
  have hl := l.isLt
  have hi := h.lt
  rw [← around_eq V d.isLt (by omega) (by omega)]
  exact maxima_at h.xc h.xcl h.xcr h.xuM h.xdM h.xulM h.xurM
    (fun d r l => by
      refine Eq.trans ?_ (h.xdM.left d r l)
      unfold Loads.xdlM Loads.xdM; pointwise [k0_pay24, k0_pay9])
    (fun d r l => by
      refine Eq.trans ?_ (h.xdM.right d r l)
      unfold Loads.xdrM Loads.xdM; pointwise [k0_pay25, k0_pay10]) d r l

/-- The three equations of a voxel as vectors, entry by entry. -/
theorem Loads.Of.rows (h : L.Of i V) (d : Fin 4) (r : Fin 16) (l : Fin 4096) :
    (⟨L.a11 (ix3 d r l), L.a12 (ix3 d r l), L.a13 (ix3 d r l), L.dsg (ix3 d r l)⟩ : Row EReal)
        = kernelRow₁ V L.p d (128 * i + 8 * r + l / 512) (l % 512)
      ∧ (⟨L.a21 (ix3 d r l), L.a22 (ix3 d r l), L.a23 (ix3 d r l), L.dyg (ix3 d r l)⟩ : Row EReal)
        = kernelRow₂ V L.p d (128 * i + 8 * r + l / 512) (l % 512)
      ∧ (⟨k0_pay50 (L.p 2 0) L.u1F L.u1B (ix3 d r l), L.a32 (ix3 d r l), k0_pay52 (L.p 2 2) L.xc L.xcF L.xcB (ix3 d r l),
          L.dxg (ix3 d r l)⟩ : Row EReal)
        = kernelRow₃ V L.p d (128 * i + 8 * r + l / 512) (l % 512) := by
  unfold kernelRow₁ kernelRow₂ kernelRow₃
  have e0 := h.xc d r l
  have e1 := h.xu d r l
  have e2 := h.xd d r l
  have e3 := h.xcl d r l
  have e4 := h.xcr d r l
  have e5 := h.xul d r l
  have e6 := h.xur d r l
  have e7 := h.xdl d r l
  have e8 := h.xdr d r l
  have e9 := h.xcF d r l
  have e10 := h.xcB d r l
  have e11 := h.uhF d r l
  have e12 := h.uhB d r l
  have e13 := h.u1F d r l
  have e14 := h.u1B d r l
  dsimp only at e0 e1 e2 e3 e4 e5 e6 e7 e8 e9 e10 e11 e12 e13 e14
  rw [← e0, ← e1, ← e2, ← e3, ← e4, ← e5, ← e6, ← e7, ← e8, ← e9, ← e10, ← e11, ← e12, ← e13, ← e14]
  exact ⟨rfl, rfl, rfl⟩

/-- The offset the body finds at a voxel. -/
theorem Loads.Of.offsets (h : L.Of i V) (d : Fin 4) (r : Fin 16) (l : Fin 4096) :
    L.s1 (ix3 d r l) = kernelS₁ V L.p d (128 * i + 8 * r + l / 512) (l % 512)
      ∧ L.s2 (ix3 d r l) = kernelS₂ V L.p d (128 * i + 8 * r + l / 512) (l % 512)
      ∧ L.s3 (ix3 d r l) = kernelS₃ V L.p d (128 * i + 8 * r + l / 512) (l % 512) := by
  obtain ⟨h1, h2, h3⟩ := h.rows d r l
  unfold kernelS₁ kernelS₂ kernelS₃
  rw [← h1, ← h2, ← h3]
  unfold xcramerU xcramerV xcramerW xdet
  rw [← Ideal.ofBits_one_f32]
  exact ⟨rfl, rfl, rfl⟩

/-- Whether the offset of a voxel is taken, and the offsets taken. -/
def kernelTaken (V : Field) (p : Perturb) (d h w : ℕ) : BitVec 1 :=
  taken (Ideal.cmp .ogt (V d h w) (neighbours (padded V) d h w)) (kernelS₁ V p d h w) (kernelS₂ V p d h w) (kernelS₃ V p d h w)

theorem Loads.Of.conv (h : L.Of i V) (d : Fin 4) (r : Fin 16) (l : Fin 4096) :
    L.conv (ix3 d r l) = kernelTaken V L.p d (128 * i + 8 * r + l / 512) (l % 512) := by
  obtain ⟨h1, h2, h3⟩ := h.offsets d r l
  unfold kernelTaken
  rw [← h.nms, ← h1, ← h2, ← h3]; rfl

/-- Zero less a value is its negative. -/
theorem moved_eq (c : BitVec 1) (s : EReal) :
    Scalar.select c (Ideal.ofBits .f32 0x00000000#32 - s) (Ideal.ofBits .f32 0x00000000#32) = moved c s := by
  unfold moved
  rw [Ideal.ofBits_zero_f32, zero_sub]

theorem Loads.Of.d1 (h : L.Of i V) (d : Fin 4) (r : Fin 16) (l : Fin 4096) :
    L.d1 (ix3 d r l) = moved (kernelTaken V L.p d (128 * i + 8 * r + l / 512) (l % 512))
      (kernelS₁ V L.p d (128 * i + 8 * r + l / 512) (l % 512)) := by
  rw [← h.conv, ← (h.offsets d r l).1, ← moved_eq]; rfl
theorem Loads.Of.d2 (h : L.Of i V) (d : Fin 4) (r : Fin 16) (l : Fin 4096) :
    L.d2 (ix3 d r l) = moved (kernelTaken V L.p d (128 * i + 8 * r + l / 512) (l % 512))
      (kernelS₂ V L.p d (128 * i + 8 * r + l / 512) (l % 512)) := by
  rw [← h.conv, ← (h.offsets d r l).2.1, ← moved_eq]; rfl
theorem Loads.Of.d3 (h : L.Of i V) (d : Fin 4) (r : Fin 16) (l : Fin 4096) :
    k0_pay67 L.s3 L.conv k0_pay66 (ix3 d r l) = moved (kernelTaken V L.p d (128 * i + 8 * r + l / 512) (l % 512))
      (kernelS₃ V L.p d (128 * i + 8 * r + l / 512) (l % 512)) := by
  rw [← h.conv, ← (h.offsets d r l).2.2, ← moved_eq]; rfl

/-- A condition widened to a word and read as a number. -/
theorem flag_sitofp (c : BitVec 1) : (((BitVec.setWidth 32 c).toInt : ℝ) : EReal) = flag c := by
  have h : c = 0#1 ∨ c = 1#1 := by
    revert c; decide
  unfold flag
  rcases h with rfl | rfl <;> simp

theorem number_word {n : ℕ} (h : n < 2 ^ 31) : (((BitVec.ofNat 32 n).toInt : ℝ) : EReal) = number n := by
  unfold number
  have e : (BitVec.ofNat 32 n).toInt = n := by
    rw [BitVec.toInt_eq_toNat_of_lt (by rw [BitVec.toNat_ofNat]; omega), BitVec.toNat_ofNat, Nat.mod_eq_of_lt (by omega)]
  rw [e]; simp

/-- The value the body stores for a voxel, -/
theorem Loads.Of.yOut (h : L.Of i V) (d : Fin 4) (r : Fin 16) (l : Fin 4096) :
    L.yOut (ix5 0 0 d r l) =
      value (V d (128 * i + 8 * r + l / 512) (l % 512)) (kernelRow₁ V L.p d (128 * i + 8 * r + l / 512) (l % 512)).r
        (kernelRow₂ V L.p d (128 * i + 8 * r + l / 512) (l % 512)).r (kernelRow₃ V L.p d (128 * i + 8 * r + l / 512) (l % 512)).r
        (kernelTaken V L.p d (128 * i + 8 * r + l / 512) (l % 512)) (kernelS₁ V L.p d (128 * i + 8 * r + l / 512) (l % 512))
        (kernelS₂ V L.p d (128 * i + 8 * r + l / 512) (l % 512)) (kernelS₃ V L.p d (128 * i + 8 * r + l / 512) (l % 512)) := by
  obtain ⟨h1, h2, h3⟩ := h.rows d r l
  unfold value
  rw [← h.d1, ← h.d2, ← h.d3, ← h1, ← h2, ← h3, ← flag_sitofp, ← h.conv, ← h.xc]
  unfold Loads.yOut
  pointwise [k0_pay68]
  rfl

/-- and its three coordinates. -/
theorem Loads.Of.c1Out (h : L.Of i V) (d : Fin 4) (r : Fin 16) (l : Fin 4096) :
    L.c1Out (ix6 0 0 0 d r l) = number d + moved (kernelTaken V L.p d (128 * i + 8 * r + l / 512) (l % 512))
      (kernelS₁ V L.p d (128 * i + 8 * r + l / 512) (l % 512)) := by
  have hd := d.isLt
  rw [← h.d1, ← number_word (by omega)]
  unfold Loads.c1Out
  pointwise [k0_pay69]
  rfl
theorem Loads.Of.c2Out (h : L.Of i V) (d : Fin 4) (r : Fin 16) (l : Fin 4096) :
    L.c2Out (ix6 0 0 0 d r l) = number (128 * i + 8 * r + l / 512)
      + moved (kernelTaken V L.p d (128 * i + 8 * r + l / 512) (l % 512))
        (kernelS₂ V L.p d (128 * i + 8 * r + l / 512) (l % 512)) := by
  have hr := r.isLt
  have hl := l.isLt
  have hi := h.lt
  rw [← h.d2, ← number_word (by omega), ← row_at hi, ← h.tile]
  unfold Loads.c2Out
  pointwise [k0_pay70]
  rfl
theorem Loads.Of.c3Out (h : L.Of i V) (d : Fin 4) (r : Fin 16) (l : Fin 4096) :
    L.c3Out (ix6 0 0 0 d r l) = number (l % 512) + moved (kernelTaken V L.p d (128 * i + 8 * r + l / 512) (l % 512))
      (kernelS₃ V L.p d (128 * i + 8 * r + l / 512) (l % 512)) := by
  have hl := l.isLt
  rw [← h.d3, ← number_word (by omega), ← col_at]
  unfold Loads.c3Out
  pointwise [k0_pay1, k0_pay71]
  rfl

end Interp

end
-- ==== Proof.Block.lean ====
/- What one grid point leaves in the two output blocks: the stores of the body, read back. -/
module

public import proofs.«01_k».proof.Proof.Gen.KernelIdeal.Frame
public import proofs.«01_k».proof.Proof.Tile
public import Idealize.ShloMosaic.Lib.WholeRead

@[expose] public section

set_option maxRecDepth 16384

noncomputable section

namespace Interp

open Idealize.ShloMosaic Idealize.SL Cert.KernelIdeal Cert.KernelIdeal.Gen

theorem one_word : 0 < S1x1.numel := by decide

variable (c : Dev nD) (i : grid0.Coords) (arg2 : Memref sig .tc .vmem S1x4x16x4096 .f32) (harg2 : arg2.IsWhole) (arg3 : Memref sig .tc .vmem S1x4x1x1x512 .f32) (harg3 : arg3.IsWhole)
  (arg4 : Memref sig .tc .vmem S1x4x1x1x512 .f32) (harg4 : arg4.IsWhole) (arg5 : Memref sig .tc .smem S3x3 .f32) (harg5 : arg5.IsWhole)
  (arg6 : Memref sig .tc .vmem S1x1x3x4x16x4096 .f32) (harg6 : arg6.IsWhole) (arg7 : Memref sig .tc .vmem S1x1x4x16x4096 .f32) (harg7 : arg7.IsWhole)
  (x0 : Vec Ideal S1x4x16x4096 .f32) (x1 : Vec Ideal S1x4x1x1x512 .f32) (x2 : Vec Ideal S1x4x1x1x512 .f32) (x3 : Vec Ideal S3x3 .f32)

/-- The entry `(r, c)` of the perturbation, loaded as a scalar. -/
theorem load_scalar {r c : ℕ} (hr : r < 3) (hc : c < 3) (inb : ∀ a, (![r, c] : Fin 2 → ℕ) a + S1x1.size a ≤ S3x3.size a) (k : S1x1.Idx) :
    View.readAt (Elt Ideal) arg5.view (Rect.unit (s := S3x3) ![r, c] S1x1.size inb).toLoadRect (harg5.unread x3) k
      = x3 (ix2 ⟨r, hr⟩ ⟨c, hc⟩) := by
  rw [harg5.readAt_unread]
  refine congrArg x3 (funext fun a => Fin.ext ?_)
  have h0 : (k 0).val = 0 := by have h := (k 0).isLt; change _ < 1 at h; omega
  have h1 : (k 1).val = 0 := by have h := (k 1).isLt; change _ < 1 at h; omega
  fin_cases a
  · show r + 1 * (k 0).val = r
    omega
  · show c + 1 * (k 1).val = c
    omega

/-- A whole block, loaded. -/
theorem load_block (inb : ∀ a, (![0, 0, 0, 0] : Fin 4 → ℕ) a + S1x4x16x4096.size a ≤ S1x4x16x4096.size a) :
    View.readAt (Elt Ideal) arg2.view (Rect.unit (s := S1x4x16x4096) ![0, 0, 0, 0] S1x4x16x4096.size inb).toLoadRect (harg2.unread x0) = x0 := by
  funext k
  rw [harg2.readAt_unread]
  refine congrArg x0 (funext fun a => Fin.ext ?_)
  fin_cases a <;> first | exact Nat.zero_add _ | (show 0 + 1 * _ = _; omega)

/-- A whole halo row, loaded. -/
theorem load_halo (arg3 : Memref sig .tc .vmem S1x4x1x1x512 .f32) (harg3 : arg3.IsWhole) (x1 : Vec Ideal S1x4x1x1x512 .f32)
    (inb : ∀ a, (![0, 0, 0, 0, 0] : Fin 5 → ℕ) a + S1x4x1x1x512.size a ≤ S1x4x1x1x512.size a) :
    View.readAt (Elt Ideal) arg3.view (Rect.unit (s := S1x4x1x1x512) ![0, 0, 0, 0, 0] S1x4x1x1x512.size inb).toLoadRect (harg3.unread x1) = x1 := by
  funext k
  rw [harg3.readAt_unread]
  refine congrArg x1 (funext fun a => Fin.ext ?_)
  fin_cases a <;> first | exact Nat.zero_add _ | (show 0 + 1 * _ = _; omega)

/-- The loads of the grid point: the four input blocks. -/
def loads (i : grid0.Coords) (x0 : Vec Ideal S1x4x16x4096 .f32) (x1 : Vec Ideal S1x4x1x1x512 .f32) (x2 : Vec Ideal S1x4x1x1x512 .f32)
    (x3 : Vec Ideal S3x3 .f32) : Loads :=
  ⟨BitVec.ofNat 32 (i 1).val, x0, x1, x2, fun r c => x3 (ix2 r c)⟩

/- Each intermediate value of the body, one after the other, is the value of that name. -/

theorem w0 : kernelRun0_A.sl.r c arg5 harg5 x3 = (loads i x0 x1 x2 x3).p 0 0 := by
  unfold kernelRun0_A.sl.r
  exact load_scalar arg5 harg5 x3 (by decide) (by decide) _ _

theorem w1 : kernelRun0_A.sl.r_1 c arg5 harg5 x3 = (loads i x0 x1 x2 x3).p 0 1 := by
  unfold kernelRun0_A.sl.r_1
  exact load_scalar arg5 harg5 x3 (by decide) (by decide) _ _

theorem w2 : kernelRun0_A.sl.r_2 c arg5 harg5 x3 = (loads i x0 x1 x2 x3).p 0 2 := by
  unfold kernelRun0_A.sl.r_2
  exact load_scalar arg5 harg5 x3 (by decide) (by decide) _ _

theorem w3 : kernelRun0_A.sl.r_3 c arg5 harg5 x3 = (loads i x0 x1 x2 x3).p 1 0 := by
  unfold kernelRun0_A.sl.r_3
  exact load_scalar arg5 harg5 x3 (by decide) (by decide) _ _

theorem w4 : kernelRun0_A.sl.r_4 c arg5 harg5 x3 = (loads i x0 x1 x2 x3).p 1 1 := by
  unfold kernelRun0_A.sl.r_4
  exact load_scalar arg5 harg5 x3 (by decide) (by decide) _ _

theorem w5 : kernelRun0_A.sl.r_5 c arg5 harg5 x3 = (loads i x0 x1 x2 x3).p 1 2 := by
  unfold kernelRun0_A.sl.r_5
  exact load_scalar arg5 harg5 x3 (by decide) (by decide) _ _

theorem w6 : kernelRun0_A.sl.r_6 c arg5 harg5 x3 = (loads i x0 x1 x2 x3).p 2 0 := by
  unfold kernelRun0_A.sl.r_6
  exact load_scalar arg5 harg5 x3 (by decide) (by decide) _ _

theorem w7 : kernelRun0_A.sl.r_7 c arg5 harg5 x3 = (loads i x0 x1 x2 x3).p 2 1 := by
  unfold kernelRun0_A.sl.r_7
  exact load_scalar arg5 harg5 x3 (by decide) (by decide) _ _

theorem w8 : kernelRun0_A.sl.r_8 c arg5 harg5 x3 = (loads i x0 x1 x2 x3).p 2 2 := by
  unfold kernelRun0_A.sl.r_8
  exact load_scalar arg5 harg5 x3 (by decide) (by decide) _ _

theorem w9 : kernelRun0_A.sl.r_9 c arg2 harg2 x0 = (loads i x0 x1 x2 x3).xc := by
  unfold kernelRun0_A.sl.r_9 Loads.xc
  rw [load_block arg2 harg2 x0]
  all_goals rfl

theorem w10 : kernelRun0_A.sl.r_10 c arg2 harg2 arg3 harg3 x0 x1 = (loads i x0 x1 x2 x3).xu := by
  unfold kernelRun0_A.sl.r_10 Loads.xu
  rw [load_block arg2 harg2 x0, load_halo arg3 harg3 x1]
  all_goals rfl

theorem w11 : kernelRun0_A.sl.r_11 c arg2 harg2 arg4 harg4 x0 x2 = (loads i x0 x1 x2 x3).xd := by
  unfold kernelRun0_A.sl.r_11 Loads.xd
  rw [load_block arg2 harg2 x0, load_halo arg4 harg4 x2]
  all_goals rfl

theorem w12 : kernelRun0_A.sl.r_12 c arg2 harg2 x0 = (loads i x0 x1 x2 x3).xcl := by
  unfold kernelRun0_A.sl.r_12 Loads.xcl
  rw [w9 c i arg2 harg2 x0 x1 x2 x3]
  all_goals rfl

theorem w13 : kernelRun0_A.sl.r_13 c arg2 harg2 x0 = (loads i x0 x1 x2 x3).xcr := by
  unfold kernelRun0_A.sl.r_13 Loads.xcr
  rw [w9 c i arg2 harg2 x0 x1 x2 x3]
  all_goals rfl

theorem w14 : kernelRun0_A.sl.r_14 c arg2 harg2 arg3 harg3 x0 x1 = (loads i x0 x1 x2 x3).xul := by
  unfold kernelRun0_A.sl.r_14 Loads.xul
  rw [w10 c i arg2 harg2 arg3 harg3 x0 x1 x2 x3]
  all_goals rfl

theorem w15 : kernelRun0_A.sl.r_15 c arg2 harg2 arg3 harg3 x0 x1 = (loads i x0 x1 x2 x3).xur := by
  unfold kernelRun0_A.sl.r_15 Loads.xur
  rw [w10 c i arg2 harg2 arg3 harg3 x0 x1 x2 x3]
  all_goals rfl

theorem w16 : kernelRun0_A.sl.r_16 c arg2 harg2 arg4 harg4 x0 x2 = (loads i x0 x1 x2 x3).xdl := by
  unfold kernelRun0_A.sl.r_16 Loads.xdl
  rw [w11 c i arg2 harg2 arg4 harg4 x0 x1 x2 x3]
  all_goals rfl

theorem w17 : kernelRun0_A.sl.r_17 c arg2 harg2 arg4 harg4 x0 x2 = (loads i x0 x1 x2 x3).xdr := by
  unfold kernelRun0_A.sl.r_17 Loads.xdr
  rw [w11 c i arg2 harg2 arg4 harg4 x0 x1 x2 x3]
  all_goals rfl

theorem w19 : kernelRun0_A.sl.r_19 i = (loads i x0 x1 x2 x3).hio := by
  unfold kernelRun0_A.sl.r_19 Loads.hio kernelRun0_A.sl.r_18
  all_goals rfl

theorem w20 : kernelRun0_A.sl.r_20 c i arg2 harg2 arg3 harg3 x0 x1 = (loads i x0 x1 x2 x3).xuM := by
  unfold kernelRun0_A.sl.r_20 Loads.xuM kernelRun0_A.sl.r_18
  rw [w10 c i arg2 harg2 arg3 harg3 x0 x1 x2 x3]
  all_goals rfl

theorem w21 : kernelRun0_A.sl.r_21 c i arg2 harg2 arg4 harg4 x0 x2 = (loads i x0 x1 x2 x3).xdM := by
  unfold kernelRun0_A.sl.r_21 Loads.xdM kernelRun0_A.sl.r_18
  rw [w11 c i arg2 harg2 arg4 harg4 x0 x1 x2 x3]
  all_goals rfl

theorem w22 : kernelRun0_A.sl.r_22 c i arg2 harg2 arg3 harg3 x0 x1 = (loads i x0 x1 x2 x3).xulM := by
  unfold kernelRun0_A.sl.r_22 Loads.xulM kernelRun0_A.sl.r_18
  rw [w10 c i arg2 harg2 arg3 harg3 x0 x1 x2 x3]
  all_goals rfl

theorem w23 : kernelRun0_A.sl.r_23 c i arg2 harg2 arg3 harg3 x0 x1 = (loads i x0 x1 x2 x3).xurM := by
  unfold kernelRun0_A.sl.r_23 Loads.xurM kernelRun0_A.sl.r_18
  rw [w10 c i arg2 harg2 arg3 harg3 x0 x1 x2 x3]
  all_goals rfl

theorem w24 : kernelRun0_A.sl.r_24 c i arg2 harg2 arg4 harg4 x0 x2 = (loads i x0 x1 x2 x3).xdlM := by
  unfold kernelRun0_A.sl.r_24 Loads.xdlM kernelRun0_A.sl.r_18
  rw [w11 c i arg2 harg2 arg4 harg4 x0 x1 x2 x3]
  all_goals rfl

theorem w25 : kernelRun0_A.sl.r_25 c i arg2 harg2 arg4 harg4 x0 x2 = (loads i x0 x1 x2 x3).xdrM := by
  unfold kernelRun0_A.sl.r_25 Loads.xdrM kernelRun0_A.sl.r_18
  rw [w11 c i arg2 harg2 arg4 harg4 x0 x1 x2 x3]
  all_goals rfl

theorem w26 : kernelRun0_A.sl.r_26 c i arg2 harg2 arg3 harg3 arg4 harg4 x0 x1 x2 = (loads i x0 x1 x2 x3).nms := by
  unfold kernelRun0_A.sl.r_26 Loads.nms
  rw [w9 c i arg2 harg2 x0 x1 x2 x3, w12 c i arg2 harg2 x0 x1 x2 x3, w13 c i arg2 harg2 x0 x1 x2 x3, w20 c i arg2 harg2 arg3 harg3 x0 x1 x2 x3, w21 c i arg2 harg2 arg4 harg4 x0 x1 x2 x3, w22 c i arg2 harg2 arg3 harg3 x0 x1 x2 x3, w23 c i arg2 harg2 arg3 harg3 x0 x1 x2 x3, w24 c i arg2 harg2 arg4 harg4 x0 x1 x2 x3, w25 c i arg2 harg2 arg4 harg4 x0 x1 x2 x3]
  all_goals rfl

theorem w27 : kernelRun0_A.sl.r_27 c arg2 harg2 x0 = (loads i x0 x1 x2 x3).xcF := by
  unfold kernelRun0_A.sl.r_27 Loads.xcF
  rw [w9 c i arg2 harg2 x0 x1 x2 x3]
  all_goals rfl

theorem w28 : kernelRun0_A.sl.r_28 c arg2 harg2 x0 = (loads i x0 x1 x2 x3).xcB := by
  unfold kernelRun0_A.sl.r_28 Loads.xcB
  rw [w9 c i arg2 harg2 x0 x1 x2 x3]
  all_goals rfl

theorem w29 : kernelRun0_A.sl.r_29 c arg2 harg2 arg3 harg3 arg4 harg4 x0 x1 x2 = (loads i x0 x1 x2 x3).uhF := by
  unfold kernelRun0_A.sl.r_29 Loads.uhF
  rw [w10 c i arg2 harg2 arg3 harg3 x0 x1 x2 x3, w11 c i arg2 harg2 arg4 harg4 x0 x1 x2 x3]
  all_goals rfl

theorem w30 : kernelRun0_A.sl.r_30 c arg2 harg2 arg3 harg3 arg4 harg4 x0 x1 x2 = (loads i x0 x1 x2 x3).uhB := by
  unfold kernelRun0_A.sl.r_30 Loads.uhB
  rw [w10 c i arg2 harg2 arg3 harg3 x0 x1 x2 x3, w11 c i arg2 harg2 arg4 harg4 x0 x1 x2 x3]
  all_goals rfl

theorem w31 : kernelRun0_A.sl.r_31 c arg2 harg2 x0 = (loads i x0 x1 x2 x3).u1F := by
  unfold kernelRun0_A.sl.r_31 Loads.u1F
  rw [w12 c i arg2 harg2 x0 x1 x2 x3, w13 c i arg2 harg2 x0 x1 x2 x3]
  all_goals rfl

theorem w32 : kernelRun0_A.sl.r_32 c arg2 harg2 x0 = (loads i x0 x1 x2 x3).u1B := by
  unfold kernelRun0_A.sl.r_32 Loads.u1B
  rw [w12 c i arg2 harg2 x0 x1 x2 x3, w13 c i arg2 harg2 x0 x1 x2 x3]
  all_goals rfl

theorem w33 : kernelRun0_A.sl.r_33 c arg2 harg2 x0 = (loads i x0 x1 x2 x3).dxg := by
  unfold kernelRun0_A.sl.r_33 Loads.dxg
  rw [w12 c i arg2 harg2 x0 x1 x2 x3, w13 c i arg2 harg2 x0 x1 x2 x3]
  all_goals rfl

theorem w34 : kernelRun0_A.sl.r_34 c arg2 harg2 arg3 harg3 arg4 harg4 x0 x1 x2 = (loads i x0 x1 x2 x3).dyg := by
  unfold kernelRun0_A.sl.r_34 Loads.dyg
  rw [w10 c i arg2 harg2 arg3 harg3 x0 x1 x2 x3, w11 c i arg2 harg2 arg4 harg4 x0 x1 x2 x3]
  all_goals rfl

theorem w36 : kernelRun0_A.sl.r_36 c arg2 harg2 x0 = (loads i x0 x1 x2 x3).dsg := by
  unfold kernelRun0_A.sl.r_36 Loads.dsg kernelRun0_A.sl.r_35
  rw [w9 c i arg2 harg2 x0 x1 x2 x3]
  all_goals rfl

theorem w37 : kernelRun0_A.sl.r_37 c arg2 harg2 arg5 harg5 x0 x3 = (loads i x0 x1 x2 x3).a11 := by
  unfold kernelRun0_A.sl.r_37 Loads.a11
  rw [w0 c i arg5 harg5 x0 x1 x2 x3, w9 c i arg2 harg2 x0 x1 x2 x3, w27 c i arg2 harg2 x0 x1 x2 x3, w28 c i arg2 harg2 x0 x1 x2 x3]
  all_goals rfl

theorem w38 : kernelRun0_A.sl.r_38 c arg2 harg2 arg3 harg3 arg4 harg4 arg5 harg5 x0 x1 x2 x3 = (loads i x0 x1 x2 x3).a12 := by
  unfold kernelRun0_A.sl.r_38 Loads.a12
  rw [w1 c i arg5 harg5 x0 x1 x2 x3, w29 c i arg2 harg2 arg3 harg3 arg4 harg4 x0 x1 x2 x3, w30 c i arg2 harg2 arg3 harg3 arg4 harg4 x0 x1 x2 x3]
  all_goals rfl

theorem w39 : kernelRun0_A.sl.r_39 c arg2 harg2 arg5 harg5 x0 x3 = (loads i x0 x1 x2 x3).a13 := by
  unfold kernelRun0_A.sl.r_39 Loads.a13
  rw [w2 c i arg5 harg5 x0 x1 x2 x3, w31 c i arg2 harg2 x0 x1 x2 x3, w32 c i arg2 harg2 x0 x1 x2 x3]
  all_goals rfl

theorem w40 : kernelRun0_A.sl.r_40 c arg2 harg2 arg3 harg3 arg4 harg4 arg5 harg5 x0 x1 x2 x3 = (loads i x0 x1 x2 x3).a21 := by
  unfold kernelRun0_A.sl.r_40 Loads.a21
  rw [w3 c i arg5 harg5 x0 x1 x2 x3, w29 c i arg2 harg2 arg3 harg3 arg4 harg4 x0 x1 x2 x3, w30 c i arg2 harg2 arg3 harg3 arg4 harg4 x0 x1 x2 x3]
  all_goals rfl

theorem w41 : kernelRun0_A.sl.r_41 c arg2 harg2 arg3 harg3 arg4 harg4 arg5 harg5 x0 x1 x2 x3 = (loads i x0 x1 x2 x3).a22 := by
  unfold kernelRun0_A.sl.r_41 Loads.a22
  rw [w4 c i arg5 harg5 x0 x1 x2 x3, w9 c i arg2 harg2 x0 x1 x2 x3, w10 c i arg2 harg2 arg3 harg3 x0 x1 x2 x3, w11 c i arg2 harg2 arg4 harg4 x0 x1 x2 x3]
  all_goals rfl

theorem w42 : kernelRun0_A.sl.r_42 c arg2 harg2 arg3 harg3 arg4 harg4 arg5 harg5 x0 x1 x2 x3 = (loads i x0 x1 x2 x3).a23 := by
  unfold kernelRun0_A.sl.r_42 Loads.a23
  rw [w5 c i arg5 harg5 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3]
  all_goals rfl

theorem w43 : kernelRun0_A.sl.r_43 c arg2 harg2 arg3 harg3 arg4 harg4 arg5 harg5 x0 x1 x2 x3 = (loads i x0 x1 x2 x3).a32 := by
  unfold kernelRun0_A.sl.r_43 Loads.a32
  rw [w7 c i arg5 harg5 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3]
  all_goals rfl

theorem w44 : kernelRun0_A.sl.r_44 c arg2 harg2 arg3 harg3 arg4 harg4 arg5 harg5 x0 x1 x2 x3 = (loads i x0 x1 x2 x3).cof11 := by
  unfold kernelRun0_A.sl.r_44 Loads.cof11
  rw [w4 c i arg5 harg5 x0 x1 x2 x3, w5 c i arg5 harg5 x0 x1 x2 x3, w7 c i arg5 harg5 x0 x1 x2 x3, w8 c i arg5 harg5 x0 x1 x2 x3, w9 c i arg2 harg2 x0 x1 x2 x3, w10 c i arg2 harg2 arg3 harg3 x0 x1 x2 x3, w11 c i arg2 harg2 arg4 harg4 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3, w27 c i arg2 harg2 x0 x1 x2 x3, w28 c i arg2 harg2 x0 x1 x2 x3]
  all_goals rfl

theorem w45 : kernelRun0_A.sl.r_45 c arg2 harg2 arg3 harg3 arg4 harg4 arg5 harg5 x0 x1 x2 x3 = (loads i x0 x1 x2 x3).cof12 := by
  unfold kernelRun0_A.sl.r_45 Loads.cof12
  rw [w3 c i arg5 harg5 x0 x1 x2 x3, w5 c i arg5 harg5 x0 x1 x2 x3, w6 c i arg5 harg5 x0 x1 x2 x3, w8 c i arg5 harg5 x0 x1 x2 x3, w9 c i arg2 harg2 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3, w27 c i arg2 harg2 x0 x1 x2 x3, w28 c i arg2 harg2 x0 x1 x2 x3, w29 c i arg2 harg2 arg3 harg3 arg4 harg4 x0 x1 x2 x3, w30 c i arg2 harg2 arg3 harg3 arg4 harg4 x0 x1 x2 x3, w31 c i arg2 harg2 x0 x1 x2 x3, w32 c i arg2 harg2 x0 x1 x2 x3]
  all_goals rfl

theorem w46 : kernelRun0_A.sl.r_46 c arg2 harg2 arg3 harg3 arg4 harg4 arg5 harg5 x0 x1 x2 x3 = (loads i x0 x1 x2 x3).cof13 := by
  unfold kernelRun0_A.sl.r_46 Loads.cof13
  rw [w3 c i arg5 harg5 x0 x1 x2 x3, w4 c i arg5 harg5 x0 x1 x2 x3, w6 c i arg5 harg5 x0 x1 x2 x3, w7 c i arg5 harg5 x0 x1 x2 x3, w9 c i arg2 harg2 x0 x1 x2 x3, w10 c i arg2 harg2 arg3 harg3 x0 x1 x2 x3, w11 c i arg2 harg2 arg4 harg4 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3, w29 c i arg2 harg2 arg3 harg3 arg4 harg4 x0 x1 x2 x3, w30 c i arg2 harg2 arg3 harg3 arg4 harg4 x0 x1 x2 x3, w31 c i arg2 harg2 x0 x1 x2 x3, w32 c i arg2 harg2 x0 x1 x2 x3]
  all_goals rfl

theorem w47 : kernelRun0_A.sl.r_47 c arg2 harg2 arg3 harg3 arg4 harg4 arg5 harg5 x0 x1 x2 x3 = (loads i x0 x1 x2 x3).cof21 := by
  unfold kernelRun0_A.sl.r_47 Loads.cof21
  rw [w1 c i arg5 harg5 x0 x1 x2 x3, w2 c i arg5 harg5 x0 x1 x2 x3, w7 c i arg5 harg5 x0 x1 x2 x3, w8 c i arg5 harg5 x0 x1 x2 x3, w9 c i arg2 harg2 x0 x1 x2 x3, w14 c i arg2 harg2 arg3 harg3 x0 x1 x2 x3, w15 c i arg2 harg2 arg3 harg3 x0 x1 x2 x3, w16 c i arg2 harg2 arg4 harg4 x0 x1 x2 x3, w17 c i arg2 harg2 arg4 harg4 x0 x1 x2 x3, w27 c i arg2 harg2 x0 x1 x2 x3, w28 c i arg2 harg2 x0 x1 x2 x3, w29 c i arg2 harg2 arg3 harg3 arg4 harg4 x0 x1 x2 x3, w30 c i arg2 harg2 arg3 harg3 arg4 harg4 x0 x1 x2 x3, w31 c i arg2 harg2 x0 x1 x2 x3, w32 c i arg2 harg2 x0 x1 x2 x3]
  all_goals rfl

theorem w48 : kernelRun0_A.sl.r_48 c arg2 harg2 arg5 harg5 x0 x3 = (loads i x0 x1 x2 x3).cof22 := by
  unfold kernelRun0_A.sl.r_48 Loads.cof22
  rw [w0 c i arg5 harg5 x0 x1 x2 x3, w2 c i arg5 harg5 x0 x1 x2 x3, w6 c i arg5 harg5 x0 x1 x2 x3, w8 c i arg5 harg5 x0 x1 x2 x3, w9 c i arg2 harg2 x0 x1 x2 x3, w27 c i arg2 harg2 x0 x1 x2 x3, w28 c i arg2 harg2 x0 x1 x2 x3, w31 c i arg2 harg2 x0 x1 x2 x3, w32 c i arg2 harg2 x0 x1 x2 x3]
  all_goals rfl

theorem w49 : kernelRun0_A.sl.r_49 c arg2 harg2 arg3 harg3 arg4 harg4 arg5 harg5 x0 x1 x2 x3 = (loads i x0 x1 x2 x3).a12a31 := by
  unfold kernelRun0_A.sl.r_49 Loads.a12a31
  rw [w1 c i arg5 harg5 x0 x1 x2 x3, w6 c i arg5 harg5 x0 x1 x2 x3, w29 c i arg2 harg2 arg3 harg3 arg4 harg4 x0 x1 x2 x3, w30 c i arg2 harg2 arg3 harg3 arg4 harg4 x0 x1 x2 x3, w31 c i arg2 harg2 x0 x1 x2 x3, w32 c i arg2 harg2 x0 x1 x2 x3]
  all_goals rfl

theorem w50 : kernelRun0_A.sl.r_50 c arg2 harg2 arg3 harg3 arg4 harg4 arg5 harg5 x0 x1 x2 x3 = (loads i x0 x1 x2 x3).s3 := by
  unfold kernelRun0_A.sl.r_50 Loads.s3
  rw [w33 c i arg2 harg2 x0 x1 x2 x3, w34 c i arg2 harg2 arg3 harg3 arg4 harg4 x0 x1 x2 x3, w36 c i arg2 harg2 x0 x1 x2 x3, w37 c i arg2 harg2 arg5 harg5 x0 x1 x2 x3, w38 c i arg2 harg2 arg3 harg3 arg4 harg4 arg5 harg5 x0 x1 x2 x3, w39 c i arg2 harg2 arg5 harg5 x0 x1 x2 x3, w40 c i arg2 harg2 arg3 harg3 arg4 harg4 arg5 harg5 x0 x1 x2 x3, w41 c i arg2 harg2 arg3 harg3 arg4 harg4 arg5 harg5 x0 x1 x2 x3, w43 c i arg2 harg2 arg3 harg3 arg4 harg4 arg5 harg5 x0 x1 x2 x3, w44 c i arg2 harg2 arg3 harg3 arg4 harg4 arg5 harg5 x0 x1 x2 x3, w45 c i arg2 harg2 arg3 harg3 arg4 harg4 arg5 harg5 x0 x1 x2 x3, w46 c i arg2 harg2 arg3 harg3 arg4 harg4 arg5 harg5 x0 x1 x2 x3, w49 c i arg2 harg2 arg3 harg3 arg4 harg4 arg5 harg5 x0 x1 x2 x3]
  all_goals rfl

theorem w51 : kernelRun0_A.sl.r_51 c i arg2 harg2 arg3 harg3 arg4 harg4 arg5 harg5 x0 x1 x2 x3 = (loads i x0 x1 x2 x3).conv := by
  unfold kernelRun0_A.sl.r_51 Loads.conv
  rw [w26 c i arg2 harg2 arg3 harg3 arg4 harg4 x0 x1 x2 x3, w33 c i arg2 harg2 x0 x1 x2 x3, w34 c i arg2 harg2 arg3 harg3 arg4 harg4 x0 x1 x2 x3, w36 c i arg2 harg2 x0 x1 x2 x3, w37 c i arg2 harg2 arg5 harg5 x0 x1 x2 x3, w38 c i arg2 harg2 arg3 harg3 arg4 harg4 arg5 harg5 x0 x1 x2 x3, w39 c i arg2 harg2 arg5 harg5 x0 x1 x2 x3, w40 c i arg2 harg2 arg3 harg3 arg4 harg4 arg5 harg5 x0 x1 x2 x3, w41 c i arg2 harg2 arg3 harg3 arg4 harg4 arg5 harg5 x0 x1 x2 x3, w42 c i arg2 harg2 arg3 harg3 arg4 harg4 arg5 harg5 x0 x1 x2 x3, w43 c i arg2 harg2 arg3 harg3 arg4 harg4 arg5 harg5 x0 x1 x2 x3, w44 c i arg2 harg2 arg3 harg3 arg4 harg4 arg5 harg5 x0 x1 x2 x3, w45 c i arg2 harg2 arg3 harg3 arg4 harg4 arg5 harg5 x0 x1 x2 x3, w46 c i arg2 harg2 arg3 harg3 arg4 harg4 arg5 harg5 x0 x1 x2 x3, w47 c i arg2 harg2 arg3 harg3 arg4 harg4 arg5 harg5 x0 x1 x2 x3, w48 c i arg2 harg2 arg5 harg5 x0 x1 x2 x3, w49 c i arg2 harg2 arg3 harg3 arg4 harg4 arg5 harg5 x0 x1 x2 x3]
  all_goals rfl

theorem w52 : kernelRun0_A.sl.r_52 c i arg2 harg2 arg3 harg3 arg4 harg4 arg5 harg5 x0 x1 x2 x3 = (loads i x0 x1 x2 x3).d1 := by
  unfold kernelRun0_A.sl.r_52 Loads.d1
  rw [w26 c i arg2 harg2 arg3 harg3 arg4 harg4 x0 x1 x2 x3, w33 c i arg2 harg2 x0 x1 x2 x3, w34 c i arg2 harg2 arg3 harg3 arg4 harg4 x0 x1 x2 x3, w36 c i arg2 harg2 x0 x1 x2 x3, w37 c i arg2 harg2 arg5 harg5 x0 x1 x2 x3, w38 c i arg2 harg2 arg3 harg3 arg4 harg4 arg5 harg5 x0 x1 x2 x3, w39 c i arg2 harg2 arg5 harg5 x0 x1 x2 x3, w40 c i arg2 harg2 arg3 harg3 arg4 harg4 arg5 harg5 x0 x1 x2 x3, w41 c i arg2 harg2 arg3 harg3 arg4 harg4 arg5 harg5 x0 x1 x2 x3, w42 c i arg2 harg2 arg3 harg3 arg4 harg4 arg5 harg5 x0 x1 x2 x3, w43 c i arg2 harg2 arg3 harg3 arg4 harg4 arg5 harg5 x0 x1 x2 x3, w44 c i arg2 harg2 arg3 harg3 arg4 harg4 arg5 harg5 x0 x1 x2 x3, w45 c i arg2 harg2 arg3 harg3 arg4 harg4 arg5 harg5 x0 x1 x2 x3, w46 c i arg2 harg2 arg3 harg3 arg4 harg4 arg5 harg5 x0 x1 x2 x3, w47 c i arg2 harg2 arg3 harg3 arg4 harg4 arg5 harg5 x0 x1 x2 x3, w48 c i arg2 harg2 arg5 harg5 x0 x1 x2 x3, w49 c i arg2 harg2 arg3 harg3 arg4 harg4 arg5 harg5 x0 x1 x2 x3]
  all_goals rfl

theorem w53 : kernelRun0_A.sl.r_53 c i arg2 harg2 arg3 harg3 arg4 harg4 arg5 harg5 x0 x1 x2 x3 = (loads i x0 x1 x2 x3).d2 := by
  unfold kernelRun0_A.sl.r_53 Loads.d2
  rw [w26 c i arg2 harg2 arg3 harg3 arg4 harg4 x0 x1 x2 x3, w33 c i arg2 harg2 x0 x1 x2 x3, w34 c i arg2 harg2 arg3 harg3 arg4 harg4 x0 x1 x2 x3, w36 c i arg2 harg2 x0 x1 x2 x3, w37 c i arg2 harg2 arg5 harg5 x0 x1 x2 x3, w38 c i arg2 harg2 arg3 harg3 arg4 harg4 arg5 harg5 x0 x1 x2 x3, w39 c i arg2 harg2 arg5 harg5 x0 x1 x2 x3, w40 c i arg2 harg2 arg3 harg3 arg4 harg4 arg5 harg5 x0 x1 x2 x3, w41 c i arg2 harg2 arg3 harg3 arg4 harg4 arg5 harg5 x0 x1 x2 x3, w42 c i arg2 harg2 arg3 harg3 arg4 harg4 arg5 harg5 x0 x1 x2 x3, w43 c i arg2 harg2 arg3 harg3 arg4 harg4 arg5 harg5 x0 x1 x2 x3, w44 c i arg2 harg2 arg3 harg3 arg4 harg4 arg5 harg5 x0 x1 x2 x3, w45 c i arg2 harg2 arg3 harg3 arg4 harg4 arg5 harg5 x0 x1 x2 x3, w46 c i arg2 harg2 arg3 harg3 arg4 harg4 arg5 harg5 x0 x1 x2 x3, w47 c i arg2 harg2 arg3 harg3 arg4 harg4 arg5 harg5 x0 x1 x2 x3, w48 c i arg2 harg2 arg5 harg5 x0 x1 x2 x3, w49 c i arg2 harg2 arg3 harg3 arg4 harg4 arg5 harg5 x0 x1 x2 x3]
  all_goals rfl

theorem w54 : kernelRun0_A.sl.r_54 c i arg2 harg2 arg3 harg3 arg4 harg4 arg5 harg5 x0 x1 x2 x3 = k0_pay71 wpos (loads i x0 x1 x2 x3).s3 (loads i x0 x1 x2 x3).conv k0_pay66 := by
  unfold kernelRun0_A.sl.r_54
  rw [w50 c i arg2 harg2 arg3 harg3 arg4 harg4 arg5 harg5 x0 x1 x2 x3, w51 c i arg2 harg2 arg3 harg3 arg4 harg4 arg5 harg5 x0 x1 x2 x3]
  all_goals rfl

/-- The block of values. -/
theorem out5_eq (y : S1x1x4x16x4096.Idx) : out0_A_5 c i arg2 harg2 arg3 harg3 arg4 harg4 arg5 harg5 arg6 harg6 arg7 harg7 x0 x1 x2 x3 y = (loads i x0 x1 x2 x3).yOut y := by
  unfold out0_A_5
  refine View.read_writes_apply_of_pieces _ _ _ _ ?_ y (cover0_A_5 c i arg2 harg2 arg3 harg3 arg4 harg4 arg5 harg5 arg6 harg6 arg7 harg7 x0 x1 x2 x3 y)
  unfold kernelRun0_A
  dsimp only
  intro p hp x
  obtain rfl := List.mem_singleton.mp hp
  have e : (Rect.unit (s := S1x1x4x16x4096) ![0, 0, 0, 0, 0] S1x1x4x16x4096.size inb_S1x1x4x16x4096_S1x1x4x16x4096_0_0_0_0_0).emb x = x := by
    refine funext fun a => Fin.ext ?_
    fin_cases a <;> first | exact Nat.zero_add _ | (show 0 + 1 * _ = _; omega)
  refine Eq.trans ?_ (congrArg (loads i x0 x1 x2 x3).yOut e.symm)
  dsimp only
  rw [w9 c i arg2 harg2 x0 x1 x2 x3, w33 c i arg2 harg2 x0 x1 x2 x3, w34 c i arg2 harg2 arg3 harg3 arg4 harg4 x0 x1 x2 x3, w36 c i arg2 harg2 x0 x1 x2 x3, w50 c i arg2 harg2 arg3 harg3 arg4 harg4 arg5 harg5 x0 x1 x2 x3, w51 c i arg2 harg2 arg3 harg3 arg4 harg4 arg5 harg5 x0 x1 x2 x3, w52 c i arg2 harg2 arg3 harg3 arg4 harg4 arg5 harg5 x0 x1 x2 x3, w53 c i arg2 harg2 arg3 harg3 arg4 harg4 arg5 harg5 x0 x1 x2 x3]
  all_goals rfl

/-- The block of coordinates: the three planes stored one after the other. -/
def Loads.coords (L : Loads) : Vec Ideal S1x1x3x4x16x4096 .f32 := fun y =>
  if (y 2).val = 0 then L.c1Out (ix6 0 0 0 (y 3) (y 4) (y 5))
  else if (y 2).val = 1 then L.c2Out (ix6 0 0 0 (y 3) (y 4) (y 5)) else L.c3Out (ix6 0 0 0 (y 3) (y 4) (y 5))

/-- A plane of coordinates, at its place in the block. -/
theorem plane_emb {k : ℕ} (hk : k < 3) (inb : ∀ a, (![0, 0, k, 0, 0, 0] : Fin 6 → ℕ) a + S1x1x1x4x16x4096.size a ≤ S1x1x3x4x16x4096.size a)
    (x : S1x1x1x4x16x4096.Idx) :
    (Rect.unit (s := S1x1x3x4x16x4096) ![0, 0, k, 0, 0, 0] S1x1x1x4x16x4096.size inb).emb x = ix6 0 0 ⟨k, hk⟩ (x 3) (x 4) (x 5) := by
  refine funext fun a => Fin.ext ?_
  have h0 : (x 0).val = 0 := by have h := (x 0).isLt; change _ < 1 at h; omega
  have h1 : (x 1).val = 0 := by have h := (x 1).isLt; change _ < 1 at h; omega
  have h2 : (x 2).val = 0 := by have h := (x 2).isLt; change _ < 1 at h; omega
  fin_cases a
  · show 0 + 1 * (x 0).val = 0
    omega
  · show 0 + 1 * (x 1).val = 0
    omega
  · show k + 1 * (x 2).val = k
    omega
  · show 0 + 1 * (x 3).val = (x 3).val
    omega
  · show 0 + 1 * (x 4).val = (x 4).val
    omega
  · show 0 + 1 * (x 5).val = (x 5).val
    omega

theorem plane_idx (x : S1x1x1x4x16x4096.Idx) : x = ix6 0 0 0 (x 3) (x 4) (x 5) := by
  refine funext fun a => Fin.ext ?_
  have h0 : (x 0).val = 0 := by have h := (x 0).isLt; change _ < 1 at h; omega
  have h1 : (x 1).val = 0 := by have h := (x 1).isLt; change _ < 1 at h; omega
  have h2 : (x 2).val = 0 := by have h := (x 2).isLt; change _ < 1 at h; omega
  fin_cases a
  · exact h0
  · exact h1
  · exact h2
  all_goals rfl

theorem out4_eq (y : S1x1x3x4x16x4096.Idx) : out0_A_4 c i arg2 harg2 arg3 harg3 arg4 harg4 arg5 harg5 arg6 harg6 arg7 harg7 x0 x1 x2 x3 y = (loads i x0 x1 x2 x3).coords y := by
  unfold out0_A_4
  refine View.read_writes_apply_of_pieces _ _ _ _ ?_ y (cover0_A_4 c i arg2 harg2 arg3 harg3 arg4 harg4 arg5 harg5 arg6 harg6 arg7 harg7 x0 x1 x2 x3 y)
  unfold kernelRun0_A
  dsimp only
  intro p hp
  rcases List.mem_cons.mp hp with rfl | hp
  · intro x
    refine Eq.trans ?_ (congrArg (loads i x0 x1 x2 x3).coords (plane_emb (k := 2) (by decide) inb_S1x1x3x4x16x4096_S1x1x1x4x16x4096_0_0_2_0_0_0 x).symm)
    dsimp only
    rw [w54 c i arg2 harg2 arg3 harg3 arg4 harg4 arg5 harg5 x0 x1 x2 x3]
    exact congrArg (loads i x0 x1 x2 x3).c3Out (plane_idx x)
  rcases List.mem_cons.mp hp with rfl | hp
  · intro x
    refine Eq.trans ?_ (congrArg (loads i x0 x1 x2 x3).coords (plane_emb (k := 1) (by decide) inb_S1x1x3x4x16x4096_S1x1x1x4x16x4096_0_0_1_0_0_0 x).symm)
    dsimp only
    rw [w53 c i arg2 harg2 arg3 harg3 arg4 harg4 arg5 harg5 x0 x1 x2 x3, w19 i x0 x1 x2 x3]
    exact congrArg (loads i x0 x1 x2 x3).c2Out (plane_idx x)
  obtain rfl := List.mem_singleton.mp hp
  intro x
  refine Eq.trans ?_ (congrArg (loads i x0 x1 x2 x3).coords (plane_emb (k := 0) (by decide) inb_S1x1x3x4x16x4096_S1x1x1x4x16x4096_0_0_0_0_0_0 x).symm)
  dsimp only
  rw [w52 c i arg2 harg2 arg3 harg3 arg4 harg4 arg5 harg5 x0 x1 x2 x3]
  exact congrArg (loads i x0 x1 x2 x3).c1Out (plane_idx x)

end Interp

end
-- ==== Proof.Entry.lean ====
/- The arrays the grid reads, entry by entry: the volume regrouped, the two rows beside each tile, the perturbation. -/
module

public import proofs.«01_k».proof.Proof.Gen.KernelIdeal.Frame
public import proofs.«01_k».proof.Proof.Tile
public import Idealize.ShloMosaic.Lib.Pointwise

@[expose] public section

set_option maxRecDepth 16384

noncomputable section

namespace Interp

open Idealize.ShloMosaic Idealize.ShloMosaic.TcCoe Cert.KernelIdeal Cert.KernelIdeal.Gen

variable (m : (ℓ : Loc nD τ sig) → Buf (Elt Ideal) ℓ) (c : Dev nD)

/-- The volume number `b` of the argument, as a function of the three coordinates. -/
def fld (x : Vec Ideal S2x1x4x512x512 .f32) (b : Fin 2) : Field := fun d h w =>
  if hh : d < 4 ∧ h < 512 ∧ w < 512 then x (ix5 b 0 ⟨d, hh.1⟩ ⟨h, hh.2.1⟩ ⟨w, hh.2.2⟩) else 0

/-- The argument of the program. -/
abbrev arg : Vec Ideal S2x1x4x512x512 .f32 := m ((c : Thread nD τ).loc main_arg0)

/-- The regrouped volume. -/
theorem read_volume : (V m c main_v0 : Vec Ideal S2x4x64x4096 .f32) = shapeCast S2x4x64x4096 (arg m c) shapeCasts_S2x1x4x512x512_S2x4x64x4096 := rfl

/-- The volume without its second axis. -/
abbrev flat : Vec Ideal S2x4x512x512 .f32 := shapeCast S2x4x512x512 (arg m c) shapeCasts_S2x1x4x512x512_S2x4x512x512

/-- The rows above the tiles. -/
theorem read_above : (V m c main_v9 : Vec Ideal S2x4x4x1x512 .f32) = shapeCast S2x4x4x1x512
    (concatenate S2x4x4x512 2 [⟨S2x4x1x512, extractStridedSlice S2x4x1x512 ![0, 0, 0, 0] (flat m c) slices_S2x4x512x512_S2x4x1x512_0_0_0_0⟩,
      ⟨S2x4x3x512, extractStridedSlice S2x4x3x512 ![0, 0, 0, 0] (Host.slice S2x4x4x512 ![0, 0, 127, 0] ![1, 1, 128, 1] (flat m c)
        slicesBy_S2x4x512x512_S2x4x4x512_0s1_0s1_127s128_0s1) slices_S2x4x4x512_S2x4x3x512_0_0_0_0⟩] concatenates_S2x4x1x512_S2x4x3x512_S2x4x4x512_d2)
    shapeCasts_S2x4x4x512_S2x4x4x1x512 := rfl

/-- The rows below the tiles. -/
theorem read_below : (V m c main_v10 : Vec Ideal S2x4x4x1x512 .f32) = shapeCast S2x4x4x1x512
    (concatenate S2x4x4x512 2 [⟨S2x4x3x512, Host.slice S2x4x3x512 ![0, 0, 128, 0] ![1, 1, 128, 1] (flat m c)
        slicesBy_S2x4x512x512_S2x4x3x512_0s1_0s1_128s128_0s1⟩,
      ⟨S2x4x1x512, extractStridedSlice S2x4x1x512 ![0, 0, 511, 0] (flat m c) slices_S2x4x512x512_S2x4x1x512_0_0_511_0⟩]
      concatenates_S2x4x3x512_S2x4x1x512_S2x4x4x512_d2)
    shapeCasts_S2x4x4x512_S2x4x4x1x512 := rfl

theorem entry_volume (b : Fin 2) (d : Fin 4) (s : Fin 64) (l : Fin 4096) :
    (V m c main_v0 : Vec Ideal S2x4x64x4096 .f32) (ix4 b d s l) = fld (arg m c) b d (8 * s + l / 512) (l % 512) := by
  have hs := s.isLt
  have hl := l.isLt
  rw [read_volume]
  unfold fld
  rw [dif_pos ⟨d.isLt, by omega, by omega⟩]
  pointwise []
  exact congrArg (arg m c) (by congr 2; omega)

theorem entry_above (b : Fin 2) (d : Fin 4) (i : Fin 4) (w : Fin 512) :
    (V m c main_v9 : Vec Ideal S2x4x4x1x512 .f32) (ix5 b d i 0 w) = fld (arg m c) b d (128 * i - 1) w := by
  have hi := i.isLt
  rw [read_above]
  unfold fld
  rw [dif_pos ⟨d.isLt, by omega, w.isLt⟩]
  pointwise []
  split
  · exact congrArg (arg m c) (by congr 2; omega)
  · exact congrArg (arg m c) (by congr 2; omega)

theorem entry_below (b : Fin 2) (d : Fin 4) (i : Fin 4) (w : Fin 512) :
    (V m c main_v10 : Vec Ideal S2x4x4x1x512 .f32) (ix5 b d i 0 w) = fld (arg m c) b d (min (128 * i + 128) 511) w := by
  have hi := i.isLt
  rw [read_below]
  unfold fld
  rw [dif_pos ⟨d.isLt, by omega, w.isLt⟩]
  pointwise []
  split
  · exact congrArg (arg m c) (by congr 2; omega)
  · exact congrArg (arg m c) (by congr 2; omega)

/-- The perturbation of the kernel: the constant table's sizes, scaled. -/
def pert : Perturb := fun r k => mag (Ideal.ofBits .f32 (lit0 (S3x3.rowMajor (ix2 r k)))) * Ideal.ofBits .f32 0x33D6BF95#32

theorem entry_pert (r k : Fin 3) : (V m c main_v13 : Vec Ideal S3x3 .f32) (ix2 r k) = pert r k := by
  rfl

end Interp

end
-- ==== Proof.Arrays.lean ====
/- The two result arrays after the last grid point, entry by entry. -/
module

public import proofs.«01_k».proof.Proof.Block
public import proofs.«01_k».proof.Proof.Entry
public import Idealize.ShloMosaic.Lib.Pipeline.Value

@[expose] public section

set_option maxRecDepth 16384

noncomputable section

namespace Interp

open Idealize.ShloMosaic Idealize.ShloMosaic.TcCoe Cert.KernelIdeal Cert.KernelIdeal.Gen

variable (m : (ℓ : Loc nD τ sig) → Buf (Elt Ideal) ℓ) (c : Dev nD)

/-- The interpolated value the kernel gives at a voxel. -/
def kernelY (V : Field) (p : Perturb) (d h w : ℕ) : EReal :=
  value (V d h w) (kernelRow₁ V p d h w).r (kernelRow₂ V p d h w).r (kernelRow₃ V p d h w).r
    (kernelTaken V p d h w) (kernelS₁ V p d h w) (kernelS₂ V p d h w) (kernelS₃ V p d h w)

/-- The coordinate number `k` the kernel gives at a voxel. -/
def kernelC (V : Field) (p : Perturb) (k d h w : ℕ) : EReal :=
  if k = 0 then number d + moved (kernelTaken V p d h w) (kernelS₁ V p d h w)
  else if k = 1 then number h + moved (kernelTaken V p d h w) (kernelS₂ V p d h w)
  else number w + moved (kernelTaken V p d h w) (kernelS₃ V p d h w)

/-- The volume of a grid point. -/
def volume (t : Fin grid0.N) : Fin 2 := ⟨t.val / 4, by have := t.isLt; have := N_0; omega⟩

/-- The tile of a grid point. -/
def tile (t : Fin grid0.N) : Fin 4 := ⟨t.val % 4, by omega⟩

theorem coords_tile (t : Fin grid0.N) : ((grid0.coords t) 1).val = (tile t).val := by
  rcases fin_N0 t with rfl | rfl | rfl | rfl | rfl | rfl | rfl | rfl <;> decide +kernel

/-- The corner of each block. -/
theorem index0 (t : Fin grid0.N) : win0_0.index t 0 = volume t ∧ win0_0.index t 1 = 0 ∧ win0_0.index t 2 = tile t ∧ win0_0.index t 3 = 0 := by
  rcases fin_N0 t with rfl | rfl | rfl | rfl | rfl | rfl | rfl | rfl <;> decide +kernel
theorem index1 (t : Fin grid0.N) : win0_1.index t 0 = volume t ∧ win0_1.index t 1 = 0 ∧ win0_1.index t 2 = tile t ∧ win0_1.index t 3 = 0
    ∧ win0_1.index t 4 = 0 := by
  rcases fin_N0 t with rfl | rfl | rfl | rfl | rfl | rfl | rfl | rfl <;> decide +kernel
theorem index2 (t : Fin grid0.N) : win0_2.index t 0 = volume t ∧ win0_2.index t 1 = 0 ∧ win0_2.index t 2 = tile t ∧ win0_2.index t 3 = 0
    ∧ win0_2.index t 4 = 0 := by
  rcases fin_N0 t with rfl | rfl | rfl | rfl | rfl | rfl | rfl | rfl <;> decide +kernel
theorem index3 (t : Fin grid0.N) : win0_3.index t 0 = 0 ∧ win0_3.index t 1 = 0 := by
  rcases fin_N0 t with rfl | rfl | rfl | rfl | rfl | rfl | rfl | rfl <;> decide +kernel
theorem index4 (t : Fin grid0.N) : win0_4.index t 0 = volume t ∧ win0_4.index t 1 = 0 ∧ win0_4.index t 2 = 0 ∧ win0_4.index t 3 = 0
    ∧ win0_4.index t 4 = tile t ∧ win0_4.index t 5 = 0 := by
  rcases fin_N0 t with rfl | rfl | rfl | rfl | rfl | rfl | rfl | rfl <;> decide +kernel
theorem index5 (t : Fin grid0.N) : win0_5.index t 0 = volume t ∧ win0_5.index t 1 = 0 ∧ win0_5.index t 2 = 0 ∧ win0_5.index t 3 = tile t
    ∧ win0_5.index t 4 = 0 := by
  rcases fin_N0 t with rfl | rfl | rfl | rfl | rfl | rfl | rfl | rfl <;> decide +kernel

theorem block_volume (t : Fin grid0.N) (d : Fin 4) (r : Fin 16) (l : Fin 4096) :
    iblk m c 0 t (ix4 0 d r l) = fld (arg m c) (volume t) d (128 * tile t + 8 * r + l / 512) (l % 512) := by
  have hr := r.isLt
  have ht := (tile t).isLt
  have e : (win0_0.rect t).emb (ix4 0 d r l) = ix4 (volume t) d ⟨16 * (tile t).val + r, by omega⟩ l := by
    obtain ⟨h0, h1, h2, h3⟩ := index0 t
    refine funext fun a => Fin.ext ?_
    rw [win0_0.rect_emb_val]
    fin_cases a
    · show win0_0.index t 0 * 1 + 0 = (volume t).val
      omega
    · show win0_0.index t 1 * 4 + d.val = d.val
      omega
    · show win0_0.index t 2 * 16 + r.val = 16 * (tile t).val + r.val
      omega
    · show win0_0.index t 3 * 4096 + l.val = l.val
      omega
  refine Eq.trans (congrArg (V m c main_v0) e) ((entry_volume m c _ _ _ _).trans ?_)
  congr 1
  show 8 * (16 * (tile t).val + r.val) + l.val / 512 = _
  omega

theorem block_above (t : Fin grid0.N) (d : Fin 4) (w : Fin 512) :
    iblk m c 1 t (ix5 0 d 0 0 w) = fld (arg m c) (volume t) d (128 * tile t - 1) w := by
  have e : (win0_1.rect t).emb (ix5 0 d 0 0 w) = ix5 (volume t) d (tile t) 0 w := by
    obtain ⟨h0, h1, h2, h3, h4⟩ := index1 t
    refine funext fun a => Fin.ext ?_
    rw [win0_1.rect_emb_val]
    fin_cases a
    · show win0_1.index t 0 * 1 + 0 = (volume t).val
      omega
    · show win0_1.index t 1 * 4 + d.val = d.val
      omega
    · show win0_1.index t 2 * 1 + 0 = (tile t).val
      omega
    · show win0_1.index t 3 * 1 + 0 = 0
      omega
    · show win0_1.index t 4 * 512 + w.val = w.val
      omega
  exact Eq.trans (congrArg (V m c main_v9) e) (entry_above m c _ _ _ _)

theorem block_below (t : Fin grid0.N) (d : Fin 4) (w : Fin 512) :
    iblk m c 2 t (ix5 0 d 0 0 w) = fld (arg m c) (volume t) d (min (128 * tile t + 128) 511) w := by
  have e : (win0_2.rect t).emb (ix5 0 d 0 0 w) = ix5 (volume t) d (tile t) 0 w := by
    obtain ⟨h0, h1, h2, h3, h4⟩ := index2 t
    refine funext fun a => Fin.ext ?_
    rw [win0_2.rect_emb_val]
    fin_cases a
    · show win0_2.index t 0 * 1 + 0 = (volume t).val
      omega
    · show win0_2.index t 1 * 4 + d.val = d.val
      omega
    · show win0_2.index t 2 * 1 + 0 = (tile t).val
      omega
    · show win0_2.index t 3 * 1 + 0 = 0
      omega
    · show win0_2.index t 4 * 512 + w.val = w.val
      omega
  exact Eq.trans (congrArg (V m c main_v10) e) (entry_below m c _ _ _ _)

theorem block_pert (t : Fin grid0.N) (r k : Fin 3) : iblk m c 3 t (ix2 r k) = pert r k := by
  have e : (win0_3.rect t).emb (ix2 r k) = ix2 r k := by
    obtain ⟨h0, h1⟩ := index3 t
    refine funext fun a => Fin.ext ?_
    rw [win0_3.rect_emb_val]
    fin_cases a
    · show win0_3.index t 0 * 3 + r.val = r.val
      omega
    · show win0_3.index t 1 * 3 + k.val = k.val
      omega
  exact Eq.trans (congrArg (V m c main_v13) e) (entry_pert m c _ _)

/-- The loads of a grid point. -/
abbrev loadsAt (t : Fin grid0.N) : Loads := loads (grid0.coords t) (iblk m c 0 t) (iblk m c 1 t) (iblk m c 2 t) (iblk m c 3 t)

/-- They are those of its tile of its volume. -/
theorem loadsAt_of (t : Fin grid0.N) : (loadsAt m c t).Of (tile t) (fld (arg m c) (volume t)) where
  lt := (tile t).isLt
  tile := congrArg (BitVec.ofNat 32) (coords_tile t)
  x := block_volume m c t
  top := block_above m c t
  bot := block_below m c t

theorem loadsAt_p (t : Fin grid0.N) : (loadsAt m c t).p = pert := funext fun r => funext fun k => block_pert m c t r k

/-- The value written at each entry of a block. -/
theorem values_at (t : Fin grid0.N) (y : S1x1x4x16x4096.Idx) :
    (outsAt0 m c t).2 y = kernelY (fld (arg m c) (volume t)) pert (y 2).val (128 * tile t + 8 * (y 3).val + (y 4).val / 512) ((y 4).val % 512) := by
  have e : y = ix5 0 0 (y 2) (y 3) (y 4) := by
    have h0 : (y 0).val = 0 := by have h := (y 0).isLt; change _ < 1 at h; omega
    have h1 : (y 1).val = 0 := by have h := (y 1).isLt; change _ < 1 at h; omega
    refine funext fun a => Fin.ext ?_
    fin_cases a
    · exact h0
    · exact h1
    all_goals rfl
  unfold outsAt0
  dsimp only
  rw [out5_eq]
  rw [e]
  refine Eq.trans ((loadsAt_of m c t).yOut (y 2) (y 3) (y 4)) ?_
  rw [loadsAt_p]
  rfl

/-- The coordinates written at each entry of a block. -/
theorem coords_at (t : Fin grid0.N) (y : S1x1x3x4x16x4096.Idx) :
    (outsAt0 m c t).1 y = kernelC (fld (arg m c) (volume t)) pert (y 2).val (y 3).val (128 * tile t + 8 * (y 4).val + (y 5).val / 512)
      ((y 5).val % 512) := by
  unfold outsAt0
  dsimp only
  rw [out4_eq]
  unfold Loads.coords kernelC
  rw [← loadsAt_p m c t]
  exact if_congr Iff.rfl ((loadsAt_of m c t).c1Out (y 3) (y 4) (y 5))
    (if_congr Iff.rfl ((loadsAt_of m c t).c2Out (y 3) (y 4) (y 5)) ((loadsAt_of m c t).c3Out (y 3) (y 4) (y 5)))

theorem emb5 (t : Fin grid0.N) (y : S1x1x4x16x4096.Idx) (a : Fin 5) :
    ((win0_5.rect t).emb y a).val = (![(volume t).val, 0, (y 2).val, 16 * (tile t).val + (y 3).val, (y 4).val] : Fin 5 → ℕ) a := by
  have h0 : (y 0).val = 0 := by have h := (y 0).isLt; change _ < 1 at h; omega
  have h1 : (y 1).val = 0 := by have h := (y 1).isLt; change _ < 1 at h; omega
  obtain ⟨i0, i1, i2, i3, i4⟩ := index5 t
  refine Eq.trans (win0_5.rect_emb_val t y a) ?_
  fin_cases a
  · show win0_5.index t 0 * 1 + (y 0).val = (volume t).val
    omega
  · show win0_5.index t 1 * 1 + (y 1).val = 0
    omega
  · show win0_5.index t 2 * 4 + (y 2).val = (y 2).val
    omega
  · show win0_5.index t 3 * 16 + (y 3).val = 16 * (tile t).val + (y 3).val
    omega
  · show win0_5.index t 4 * 4096 + (y 4).val = (y 4).val
    omega

theorem emb4 (t : Fin grid0.N) (y : S1x1x3x4x16x4096.Idx) (a : Fin 6) :
    ((win0_4.rect t).emb y a).val = (![(volume t).val, 0, (y 2).val, (y 3).val, 16 * (tile t).val + (y 4).val, (y 5).val] : Fin 6 → ℕ) a := by
  have h0 : (y 0).val = 0 := by have h := (y 0).isLt; change _ < 1 at h; omega
  have h1 : (y 1).val = 0 := by have h := (y 1).isLt; change _ < 1 at h; omega
  obtain ⟨i0, i1, i2, i3, i4, i5⟩ := index4 t
  refine Eq.trans (win0_4.rect_emb_val t y a) ?_
  fin_cases a
  · show win0_4.index t 0 * 1 + (y 0).val = (volume t).val
    omega
  · show win0_4.index t 1 * 1 + (y 1).val = 0
    omega
  · show win0_4.index t 2 * 3 + (y 2).val = (y 2).val
    omega
  · show win0_4.index t 3 * 4 + (y 3).val = (y 3).val
    omega
  · show win0_4.index t 4 * 16 + (y 4).val = 16 * (tile t).val + (y 4).val
    omega
  · show win0_4.index t 5 * 4096 + (y 5).val = (y 5).val
    omega

/-- What is written back is what the body left. -/
theorem flushed5 (t : Fin grid0.N) : (dats m 0 c).flushed 5 t = (outsAt0 m c t).2 := by
  show (cfg0.win 5).cut (grid0.coords t) ((dats m 0 c).after 5 t) = _
  rw [after0_5]
  generalize (outsAt0 m c t).2 = v
  rfl
theorem flushed4 (t : Fin grid0.N) : (dats m 0 c).flushed 4 t = (outsAt0 m c t).1 := by
  show (cfg0.win 4).cut (grid0.coords t) ((dats m 0 c).after 4 t) = _
  rw [after0_4]
  generalize (outsAt0 m c t).1 = v
  rfl

/-- The point whose block holds row group `s` of volume `b`. -/
def point (b : Fin 2) (s : Fin 64) : Fin grid0.N := ⟨4 * b.val + s.val / 16, by have := b.isLt; have := s.isLt; have := N_0; omega⟩

/-- The array of values. -/
theorem final_values (b : Fin 2) (d : Fin 4) (s : Fin 64) (l : Fin 4096) :
    ((dats m 0 c).arrAt 5 cfg0.N : Vec Ideal S2x1x4x64x4096 .f32) (ix5 b 0 d s l)
      = kernelY (fld (arg m c) b) pert d (8 * s + l / 512) (l % 512) := by
  have hb := b.isLt
  have hs := s.isLt
  refine (dats m 0 c).arrAt_forall_of_flushed 5
    (fun (i : S2x1x4x64x4096.Idx) (v : EReal) => v = kernelY (fld (arg m c) (i 0)) pert (i 2).val (8 * (i 3).val + (i 4).val / 512) ((i 4).val % 512))
    (fun t _ y => ?_) cfg0.N (point b s) (ix5 b 0 d s l) (point b s).isLt (flush0_5 _) ?_
  · refine Eq.trans ((cast_eq _ _).trans (congrFun (flushed5 m c t) y)) ((values_at m c t y).trans ?_)
    show _ = kernelY (fld (arg m c) ((win0_5.rect t).emb y 0)) pert ((win0_5.rect t).emb y 2).val
      (8 * ((win0_5.rect t).emb y 3).val + ((win0_5.rect t).emb y 4).val / 512) (((win0_5.rect t).emb y 4).val % 512)
    rw [show (win0_5.rect t).emb y 0 = volume t from Fin.ext (emb5 t y 0), emb5 t y 2, emb5 t y 3, emb5 t y 4]
    show kernelY _ _ _ _ _ = kernelY _ _ _ (8 * (16 * (tile t).val + (y 3).val) + (y 4).val / 512) _
    congr 1
    omega
  · refine Finset.mem_map.mpr ⟨(ix5 0 0 d ⟨s.val % 16, by omega⟩ l : S1x1x4x16x4096.Idx), Finset.mem_univ _, ?_⟩
    refine funext fun a => Fin.ext ?_
    refine Eq.trans (emb5 (point b s) _ a) ?_
    fin_cases a
    · show (4 * b.val + s.val / 16) / 4 = b.val
      omega
    · rfl
    · rfl
    · show 16 * ((4 * b.val + s.val / 16) % 4) + s.val % 16 = s.val
      omega
    · rfl

/-- The array of coordinates. -/
theorem final_coords (b : Fin 2) (k : Fin 3) (d : Fin 4) (s : Fin 64) (l : Fin 4096) :
    ((dats m 0 c).arrAt 4 cfg0.N : Vec Ideal S2x1x3x4x64x4096 .f32) (ix6 b 0 k d s l)
      = kernelC (fld (arg m c) b) pert k d (8 * s + l / 512) (l % 512) := by
  have hb := b.isLt
  have hs := s.isLt
  refine (dats m 0 c).arrAt_forall_of_flushed 4
    (fun (i : S2x1x3x4x64x4096.Idx) (v : EReal) => v = kernelC (fld (arg m c) (i 0)) pert (i 2).val (i 3).val (8 * (i 4).val + (i 5).val / 512)
      ((i 5).val % 512))
    (fun t _ y => ?_) cfg0.N (point b s) (ix6 b 0 k d s l) (point b s).isLt (flush0_4 _) ?_
  · refine Eq.trans ((cast_eq _ _).trans (congrFun (flushed4 m c t) y)) ((coords_at m c t y).trans ?_)
    show _ = kernelC (fld (arg m c) ((win0_4.rect t).emb y 0)) pert ((win0_4.rect t).emb y 2).val ((win0_4.rect t).emb y 3).val
      (8 * ((win0_4.rect t).emb y 4).val + ((win0_4.rect t).emb y 5).val / 512) (((win0_4.rect t).emb y 5).val % 512)
    rw [show (win0_4.rect t).emb y 0 = volume t from Fin.ext (emb4 t y 0), emb4 t y 2, emb4 t y 3, emb4 t y 4, emb4 t y 5]
    show kernelC _ _ _ _ _ _ = kernelC _ _ _ _ (8 * (16 * (tile t).val + (y 4).val) + (y 5).val / 512) _
    congr 1
    omega
  · refine Finset.mem_map.mpr ⟨(ix6 0 0 k d ⟨s.val % 16, by omega⟩ l : S1x1x3x4x16x4096.Idx), Finset.mem_univ _, ?_⟩
    refine funext fun a => Fin.ext ?_
    refine Eq.trans (emb4 (point b s) _ a) ?_
    fin_cases a
    · show (4 * b.val + s.val / 16) / 4 = b.val
      omega
    · rfl
    · rfl
    · rfl
    · show 16 * ((4 * b.val + s.val / 16) % 4) + s.val % 16 = s.val
      omega
    · rfl

end Interp

end
-- ==== Proof.KernelRun.lean ====
/- The two results of the kernel's run, entry by entry. -/
module

public import proofs.«01_k».proof.Proof.Arrays
public import Idealize.ShloMosaic.Lib.Pointwise

@[expose] public section

set_option maxRecDepth 16384

noncomputable section

namespace Interp

open Idealize.ShloMosaic Idealize.ShloMosaic.TcCoe Idealize.SL.Sem Cert.KernelIdeal Cert.KernelIdeal.Gen

variable (m : (ℓ : Loc nD τ sig) → Buf (Elt Ideal) ℓ) (c : Dev nD)

theorem arrays_distinct : Function.Injective (Pipeline.arrRef spec0) := by decide

/-- After the launch the coordinates are regrouped. -/
theorem tail_coords : (Pipeline.afterTail₀ cfgs (dats m) 0 (V0 m) [hostOps1] c main_v15 : Vec Ideal S2x1x3x4x512x512 .f32)
    = shapeCast S2x1x3x4x512x512 ((dats m 0 c).arrAt 4 cfg0.N : Vec Ideal S2x1x3x4x64x4096 .f32) shapeCasts_S2x1x3x4x64x4096_S2x1x3x4x512x512 := by
  have h : _ = (dats m 0 c).arrAt 4 cfg0.N := Pipeline.withArrays_arr spec0 arrays_distinct c (V0 m c) (fun w => (dats m 0 c).arrAt w cfg0.N) 4
  rw [← h]
  rfl

/-- After the launch the values are regrouped. -/
theorem tail_values : (Pipeline.afterTail₀ cfgs (dats m) 0 (V0 m) [hostOps1] c main_v16 : Vec Ideal S2x1x4x512x512 .f32)
    = shapeCast S2x1x4x512x512 ((dats m 0 c).arrAt 5 cfg0.N : Vec Ideal S2x1x4x64x4096 .f32) shapeCasts_S2x1x4x64x4096_S2x1x4x512x512 := by
  have h : _ = (dats m 0 c).arrAt 5 cfg0.N := Pipeline.withArrays_arr spec0 arrays_distinct c (V0 m c) (fun w => (dats m 0 c).arrAt w cfg0.N) 5
  rw [← h]
  rfl

theorem regroup_coords (A : Vec Ideal S2x1x3x4x64x4096 .f32) (b : Fin 2) (k : Fin 3) (d : Fin 4) (h w : Fin 512) :
    shapeCast S2x1x3x4x512x512 A shapeCasts_S2x1x3x4x64x4096_S2x1x3x4x512x512 (ix6 b 0 k d h w)
      = A (ix6 b 0 k d ⟨h.val / 8, by have := h.isLt; omega⟩ ⟨512 * (h.val % 8) + w.val, by have := w.isLt; omega⟩) := by
  have hh := h.isLt
  have hw := w.isLt
  pointwise []
  exact congrArg A (by congr 2; omega)

theorem regroup_values (A : Vec Ideal S2x1x4x64x4096 .f32) (b : Fin 2) (d : Fin 4) (h w : Fin 512) :
    shapeCast S2x1x4x512x512 A shapeCasts_S2x1x4x64x4096_S2x1x4x512x512 (ix5 b 0 d h w)
      = A (ix5 b 0 d ⟨h.val / 8, by have := h.isLt; omega⟩ ⟨512 * (h.val % 8) + w.val, by have := w.isLt; omega⟩) := by
  have hh := h.isLt
  have hw := w.isLt
  pointwise []
  exact congrArg A (by congr 2; omega)

/-- Entry by entry, the coordinates. -/
theorem result_coords (b : Fin 2) (k : Fin 3) (d : Fin 4) (h w : Fin 512) :
    (Pipeline.afterTail₀ cfgs (dats m) 0 (V0 m) [hostOps1] c main_v15 : Vec Ideal S2x1x3x4x512x512 .f32) (ix6 b 0 k d h w)
      = kernelC (fld (arg m c) b) pert k d h w := by
  have hh := h.isLt
  have hw := w.isLt
  refine (congrFun (tail_coords m c) _).trans ((regroup_coords _ b k d h w).trans ((final_coords m c b k d _ _).trans ?_))
  congr 1
  · show 8 * (h.val / 8) + (512 * (h.val % 8) + w.val) / 512 = h.val
    omega
  · show (512 * (h.val % 8) + w.val) % 512 = w.val
    omega

/-- Entry by entry, the values. -/
theorem result_values (b : Fin 2) (d : Fin 4) (h w : Fin 512) :
    (Pipeline.afterTail₀ cfgs (dats m) 0 (V0 m) [hostOps1] c main_v16 : Vec Ideal S2x1x4x512x512 .f32) (ix5 b 0 d h w)
      = kernelY (fld (arg m c) b) pert d h w := by
  have hh := h.isLt
  have hw := w.isLt
  refine (congrFun (tail_values m c) _).trans ((regroup_values _ b d h w).trans ((final_values m c b d _ _).trans ?_))
  congr 1
  · show 8 * (h.val / 8) + (512 * (h.val % 8) + w.val) / 512 = h.val
    omega
  · show (512 * (h.val % 8) + w.val) % 512 = w.val
    omega

/-- The run: both results, and the argument as it was. -/
theorem kernel_run (ρ : Dev nD → PrngReg) : θ_run defs (onTc (τ := τ) (main (F := Ideal))) ⟨m, fun _ => 0, ρ⟩ fun r => ∀ c : Dev nD,
    (∀ b k d h w, (r.2.mem ((c : Thread nD τ).loc main_v15) : Vec Ideal S2x1x3x4x512x512 .f32) (ix6 b 0 k d h w) = kernelC (fld (arg m c) b) pert k.val d.val h.val w.val)
    ∧ (∀ b d h w, (r.2.mem ((c : Thread nD τ).loc main_v16) : Vec Ideal S2x1x4x512x512 .f32) (ix5 b 0 d h w) = kernelY (fld (arg m c) b) pert d.val h.val w.val) :=
  (θ_run defs _ _).mono (fun r h c => by
    have e15 := (h c).2 main_v15 (Pipeline.mem_restRefs_of main_v15 (by decide) (by decide))
    have e16 := (h c).2 main_v16 (Pipeline.mem_restRefs_of main_v16 (by decide) (by decide))
    exact ⟨fun b k d h w => (congrFun e15 _).trans (result_coords m c b k d h w), fun b d h w => (congrFun e16 _).trans (result_values m c b d h w)⟩)
    (run_main m ρ)

end Interp

end
-- ==== Proof.RefPads.lean ====
/- The reference's two padded volumes, read at one place: the volume continued by its edge, and the volume surrounded
   by minus infinity. -/
module

public import proofs.«01_k».proof.Proof.Entry
public import proofs.«01_k».proof.Proof.Maxima
public import proofs.«01_k».proof.Proof.Gen.ReferenceIdeal.Run

@[expose] public section

set_option maxRecDepth 16384

noncomputable section

namespace Interp.Ref

open Idealize.ShloMosaic Idealize.SL Cert.ReferenceIdeal Cert.ReferenceIdeal.Value

/-- The volumes the reference is given. -/
def input (V0 : Valuation τ sig (Elt Ideal)) : Vec Ideal S2x1x4x512x512 .f32 := V0 (Proc.devRef .tc main_arg0)

variable (V0 : Valuation τ sig (Elt Ideal))

theorem edge₁ (b : Fin 2) (a : Fin 6) (h w : Fin 512) :
    (res_main_v2 V0 : Vec Ideal S2x1x6x512x512 .f32) (ix5 b 0 a h w)
      = input V0 (ix5 b 0 ⟨min (a - 1) 3, by omega⟩ h w) := by
  have ha := a.isLt
  unfold res_main_v2
  unfold input
  generalize hx : V0 (Proc.devRef .tc main_arg0) = x
  pointwise []
  split
  · exact congrArg x (by congr 2; omega)
  · split
    · exact congrArg x (by congr 2; omega)
    · exact congrArg x (by congr 2; omega)

theorem edge₂ (b : Fin 2) (a : Fin 6) (h : Fin 514) (w : Fin 512) :
    (res_main_v5 V0 : Vec Ideal S2x1x6x514x512 .f32) (ix5 b 0 a h w)
      = (res_main_v2 V0 : Vec Ideal S2x1x6x512x512 .f32) (ix5 b 0 a ⟨min (h - 1) 511, by omega⟩ w) := by
  have ha := h.isLt
  unfold res_main_v5
  generalize res_main_v2 V0 = x
  pointwise []
  split
  · exact congrArg x (by congr 2; omega)
  · split
    · exact congrArg x (by congr 2; omega)
    · exact congrArg x (by congr 2; omega)

theorem edge₃ (b : Fin 2) (a : Fin 6) (h w : Fin 514) :
    (res_main_v8 V0 : Vec Ideal S2x1x6x514x514 .f32) (ix5 b 0 a h w)
      = (res_main_v5 V0 : Vec Ideal S2x1x6x514x512 .f32) (ix5 b 0 a h ⟨min (w - 1) 511, by omega⟩) := by
  have ha := w.isLt
  unfold res_main_v8
  generalize res_main_v5 V0 = x
  pointwise []
  split
  · exact congrArg x (by congr 2; omega)
  · split
    · exact congrArg x (by congr 2; omega)
    · exact congrArg x (by congr 2; omega)

/-- The volume continued by its edge. -/
theorem edge (b : Fin 2) (a : Fin 6) (h w : Fin 514) :
    (res_main_v8 V0 : Vec Ideal S2x1x6x514x514 .f32) (ix5 b 0 a h w)
      = fld (input V0) b (min (a - 1) 3) (min (h - 1) 511) (min (w - 1) 511) := by
  rw [edge₃, edge₂, edge₁]
  unfold fld
  rw [dif_pos (by omega)]

/-- The volume surrounded by minus infinity. -/
theorem surrounded (b : Fin 2) (a : Fin 6) (h w : Fin 514) :
    (res_main_v179 V0 : Vec Ideal S2x1x6x514x514 .f32) (ix5 b 0 a h w) = padded (fld (input V0) b) a h w := by
  have ha := a.isLt
  have hh := h.isLt
  have hw := w.isLt
  unfold res_main_v179
  generalize hx : V0 (Proc.devRef .tc main_arg0) = x
  pointwise []
  split
  · rename_i g
    have g2 : 1 ≤ a.val ∧ (a.val - 1) % (0 + 1) = 0 ∧ (a.val - 1) / (0 + 1) < 4 := g (2 : Fin 5)
    have g3 : 1 ≤ h.val ∧ (h.val - 1) % (0 + 1) = 0 ∧ (h.val - 1) / (0 + 1) < 512 := g (3 : Fin 5)
    have g4 : 1 ≤ w.val ∧ (w.val - 1) % (0 + 1) = 0 ∧ (w.val - 1) / (0 + 1) < 512 := g (4 : Fin 5)
    unfold padded fld
    rw [if_pos (by omega), dif_pos (by omega)]
    rw [← hx]; rfl
  · rename_i g
    unfold padded
    rw [if_neg, ofBits_neg_inf]
    rintro ⟨g2, g3, g4⟩
    refine g fun k => ?_
    have hb := b.isLt
    have k5 : ∀ k : Fin 5, (![0, 0, 1, 1, 1] : Fin 5 → ℕ) k ≤ ((ix5 b 0 a h w : S2x1x6x514x514.Idx) k).val
        ∧ (((ix5 b 0 a h w : S2x1x6x514x514.Idx) k).val - (![0, 0, 1, 1, 1] : Fin 5 → ℕ) k) % (0 + 1) = 0
        ∧ (((ix5 b 0 a h w : S2x1x6x514x514.Idx) k).val - (![0, 0, 1, 1, 1] : Fin 5 → ℕ) k) / (0 + 1) < (![2, 1, 4, 512, 512] : Fin 5 → ℕ) k := by
      intro k
      fin_cases k
      · show 0 ≤ b.val ∧ (b.val - 0) % 1 = 0 ∧ (b.val - 0) / 1 < 2
        omega
      · show 0 ≤ 0 ∧ (0 - 0) % 1 = 0 ∧ (0 - 0) / 1 < 1
        omega
      · show 1 ≤ a.val ∧ (a.val - 1) % 1 = 0 ∧ (a.val - 1) / 1 < 4
        omega
      · show 1 ≤ h.val ∧ (h.val - 1) % 1 = 0 ∧ (h.val - 1) / 1 < 512
        omega
      · show 1 ≤ w.val ∧ (w.val - 1) % 1 = 0 ∧ (w.val - 1) / 1 < 512
        omega
    have kk := k5 k
    change Fin 5 at k
    fin_cases k <;> exact kk

end Interp.Ref

end
-- ==== Proof.RefSolve.lean ====
/- The reference's elimination, read at one voxel: its three equations, each step of the elimination, the three offsets. -/
module

public import proofs.«01_k».proof.Proof.RefPads
public import proofs.«01_k».proof.Proof.Voxel

@[expose] public section

set_option maxRecDepth 16384

noncomputable section

namespace Interp.Ref

open Idealize.ShloMosaic Idealize.SL Cert.ReferenceIdeal Cert.ReferenceIdeal.Value

/-- An array's value at a place. -/
def val (A : Vec Ideal S2x1x4x512x512 .f32) (y : S2x1x4x512x512.Idx) : EReal := A y

variable (V0 : Valuation τ sig (Elt Ideal)) (y : S2x1x4x512x512.Idx)

/-- The three equations at a voxel. -/
def eqn₁ : Row EReal := ⟨val (res_main_v69 V0) y, val (res_main_v73 V0) y, val (res_main_v77 V0) y, val (res_main_v23 V0) y⟩
def eqn₂ : Row EReal := ⟨val (res_main_v81 V0) y, val (res_main_v85 V0) y, val (res_main_v89 V0) y, val (res_main_v18 V0) y⟩
def eqn₃ : Row EReal := ⟨val (res_main_v93 V0) y, val (res_main_v97 V0) y, val (res_main_v101 V0) y, val (res_main_v13 V0) y⟩

/-- A choice by the greater of two sizes. -/
theorem select_gt (a b x z : EReal) : Scalar.select (Ideal.cmp .ogt a b) x z = if b < a then x else z := by
  unfold Scalar.select Ideal.cmp
  by_cases h : b < a
  · rw [if_pos h]; simp [h]
  · rw [if_neg h]; simp [h]

/-- A row chosen by the greater of two sizes. -/
theorem pick_gt (a b : EReal) (p q : Row EReal) :
    Row.pick (b < a) p q = ⟨Scalar.select (Ideal.cmp .ogt a b) p.u q.u, Scalar.select (Ideal.cmp .ogt a b) p.v q.v,
      Scalar.select (Ideal.cmp .ogt a b) p.w q.w, Scalar.select (Ideal.cmp .ogt a b) p.r q.r⟩ := by
  unfold Row.pick
  simp only [select_gt]

/-- The rows after the first exchange. -/
def after₁ : Pivoted EReal :=
  ⟨⟨val (res_main_v105 V0) y, val (res_main_v106 V0) y, val (res_main_v107 V0) y, val (res_main_v108 V0) y⟩,
   ⟨val (res_main_v109 V0) y, Scalar.select (res_main_v104 V0 y) (val (res_main_v73 V0) y) (val (res_main_v85 V0) y),
    Scalar.select (res_main_v104 V0 y) (val (res_main_v77 V0) y) (val (res_main_v89 V0) y),
    Scalar.select (res_main_v104 V0 y) (val (res_main_v23 V0) y) (val (res_main_v18 V0) y)⟩,
   eqn₃ V0 y⟩

theorem after₁_eq : xpivot₁ (eqn₁ V0 y) (eqn₂ V0 y) (eqn₃ V0 y) = after₁ V0 y := by
  unfold xpivot₁
  rw [pick_gt, pick_gt]
  rfl

/-- The rows after the second. -/
def after₂ : Pivoted EReal :=
  ⟨⟨val (res_main_v116 V0) y, val (res_main_v117 V0) y, val (res_main_v118 V0) y, val (res_main_v119 V0) y⟩,
   (after₁ V0 y).q,
   ⟨val (res_main_v120 V0) y, Scalar.select (res_main_v115 V0 y) (val (res_main_v106 V0) y) (val (res_main_v97 V0) y),
    Scalar.select (res_main_v115 V0 y) (val (res_main_v107 V0) y) (val (res_main_v101 V0) y),
    Scalar.select (res_main_v115 V0 y) (val (res_main_v108 V0) y) (val (res_main_v13 V0) y)⟩⟩

theorem after₂_eq : xpivot₂ (after₁ V0 y) = after₂ V0 y := by
  unfold xpivot₂
  rw [pick_gt, pick_gt]
  rfl

/-- The rows after the first column is cleared. -/
def after₃ : Pivoted EReal :=
  ⟨(after₂ V0 y).p,
   ⟨val (res_main_v126 V0) y, val (res_main_v128 V0) y, val (res_main_v130 V0) y, val (res_main_v132 V0) y⟩,
   ⟨val (res_main_v135 V0) y, val (res_main_v137 V0) y, val (res_main_v139 V0) y, val (res_main_v141 V0) y⟩⟩

/-- The factors of the first column and the entries left after it. -/
theorem read124 : val (res_main_v124 V0) y = Ideal.div (val (res_main_v109 V0) y) (val (res_main_v116 V0) y) := by
  unfold res_main_v124; rfl
theorem read133 : val (res_main_v133 V0) y = Ideal.div (val (res_main_v120 V0) y) (val (res_main_v116 V0) y) := by
  unfold res_main_v133; rfl
theorem read126 : val (res_main_v126 V0) y = (val (res_main_v109 V0) y) - (val (res_main_v124 V0) y) * (val (res_main_v116 V0) y) := by
  unfold res_main_v126; rfl
theorem read128 : val (res_main_v128 V0) y = Scalar.select (res_main_v104 V0 y) (val (res_main_v73 V0) y) (val (res_main_v85 V0) y) - (val (res_main_v124 V0) y) * (val (res_main_v117 V0) y) := by
  unfold res_main_v128; rfl
theorem read130 : val (res_main_v130 V0) y = Scalar.select (res_main_v104 V0 y) (val (res_main_v77 V0) y) (val (res_main_v89 V0) y) - (val (res_main_v124 V0) y) * (val (res_main_v118 V0) y) := by
  unfold res_main_v130; rfl
theorem read132 : val (res_main_v132 V0) y = Scalar.select (res_main_v104 V0 y) (val (res_main_v23 V0) y) (val (res_main_v18 V0) y) - (val (res_main_v124 V0) y) * (val (res_main_v119 V0) y) := by
  unfold res_main_v132; rfl
theorem read135 : val (res_main_v135 V0) y = (val (res_main_v120 V0) y) - (val (res_main_v133 V0) y) * (val (res_main_v116 V0) y) := by
  unfold res_main_v135; rfl
theorem read137 : val (res_main_v137 V0) y = Scalar.select (res_main_v115 V0 y) (val (res_main_v106 V0) y) (val (res_main_v97 V0) y) - (val (res_main_v133 V0) y) * (val (res_main_v117 V0) y) := by
  unfold res_main_v137; rfl
theorem read139 : val (res_main_v139 V0) y = Scalar.select (res_main_v115 V0 y) (val (res_main_v107 V0) y) (val (res_main_v101 V0) y) - (val (res_main_v133 V0) y) * (val (res_main_v118 V0) y) := by
  unfold res_main_v139; rfl
theorem read141 : val (res_main_v141 V0) y = Scalar.select (res_main_v115 V0 y) (val (res_main_v108 V0) y) (val (res_main_v13 V0) y) - (val (res_main_v133 V0) y) * (val (res_main_v119 V0) y) := by
  unfold res_main_v141; rfl

theorem after₃_eq : xclear₁ (after₂ V0 y) = after₃ V0 y := by
  unfold after₃
  rw [read126, read128, read130, read132, read135, read137, read139, read141, read124, read133]
  unfold after₂ after₁ xclear₁
  rfl

/-- The rows after the third exchange. -/
def after₄ : Pivoted EReal :=
  ⟨(after₂ V0 y).p,
   ⟨Scalar.select (res_main_v144 V0 y) (val (res_main_v135 V0) y) (val (res_main_v126 V0) y), val (res_main_v146 V0) y, val (res_main_v147 V0) y, val (res_main_v148 V0) y⟩,
   ⟨Scalar.select (res_main_v144 V0 y) (val (res_main_v126 V0) y) (val (res_main_v135 V0) y), val (res_main_v150 V0) y,
    Scalar.select (res_main_v144 V0 y) (val (res_main_v130 V0) y) (val (res_main_v139 V0) y),
    Scalar.select (res_main_v144 V0 y) (val (res_main_v132 V0) y) (val (res_main_v141 V0) y)⟩⟩

theorem after₄_eq : xpivot₃ (after₃ V0 y) = after₄ V0 y := by
  unfold xpivot₃
  rw [pick_gt, pick_gt]
  rfl

theorem reduced_eq : xreduced (eqn₁ V0 y) (eqn₂ V0 y) (eqn₃ V0 y) = xclear₂ (after₄ V0 y) := by
  unfold xreduced
  rw [after₁_eq, after₂_eq, after₃_eq, after₄_eq]

/-- The three unknowns, and their negatives. -/
theorem read153 : val (res_main_v153 V0) y = Ideal.div (val (res_main_v150 V0) y) (val (res_main_v146 V0) y) := by
  unfold res_main_v153; rfl
theorem read162 : val (res_main_v162 V0) y = Ideal.div (Scalar.select (res_main_v144 V0 y) (val (res_main_v132 V0) y) (val (res_main_v141 V0) y) - (val (res_main_v153 V0) y) * (val (res_main_v148 V0) y)) (Scalar.select (res_main_v144 V0 y) (val (res_main_v130 V0) y) (val (res_main_v139 V0) y) - (val (res_main_v153 V0) y) * (val (res_main_v147 V0) y)) := by
  unfold res_main_v162; rfl
theorem read165 : val (res_main_v165 V0) y = Ideal.div ((val (res_main_v148 V0) y) - (val (res_main_v147 V0) y) * (val (res_main_v162 V0) y)) (val (res_main_v146 V0) y) := by
  unfold res_main_v165; rfl
theorem read171 : val (res_main_v171 V0) y = -Ideal.div ((val (res_main_v119 V0) y) - (val (res_main_v117 V0) y) * (val (res_main_v165 V0) y) - (val (res_main_v118 V0) y) * (val (res_main_v162 V0) y)) (val (res_main_v116 V0) y) := by
  unfold res_main_v171; rfl
theorem read172 : val (res_main_v172 V0) y = -(val (res_main_v165 V0) y) := by
  unfold res_main_v172; rfl
theorem read173 : val (res_main_v173 V0) y = -(val (res_main_v162 V0) y) := by
  unfold res_main_v173; rfl

theorem unknown₃ : val (res_main_v162 V0) y = xelimW (xclear₂ (after₄ V0 y)) := by
  rw [read162, read153]
  unfold xelimW xclear₂ after₄
  rfl
theorem unknown₂ : val (res_main_v165 V0) y = xelimV (xclear₂ (after₄ V0 y)) := by
  unfold xelimV
  rw [← unknown₃, read165]
  unfold xclear₂ after₄
  rfl
theorem step₁ : val (res_main_v171 V0) y = -xelimU (xclear₂ (after₄ V0 y)) := by
  unfold xelimU
  rw [← unknown₃, ← unknown₂, read171]
  unfold xclear₂ after₄ after₂
  rfl
theorem step₂ : val (res_main_v172 V0) y = -xelimV (xclear₂ (after₄ V0 y)) := by
  rw [← unknown₂, read172]
theorem step₃ : val (res_main_v173 V0) y = -xelimW (xclear₂ (after₄ V0 y)) := by
  rw [← unknown₃, read173]

end Interp.Ref

end
-- ==== Proof.RefRows.lean ====
/- The reference's derivatives and perturbation, read at one voxel: its equations are the rows of the voxel. -/
module

public import proofs.«01_k».proof.Proof.RefSolve

@[expose] public section

set_option maxRecDepth 16384

noncomputable section

namespace Interp.Ref

open Idealize.ShloMosaic Idealize.SL Cert.ReferenceIdeal Cert.ReferenceIdeal.Value

variable (V0 : Valuation τ sig (Elt Ideal)) (b : Fin 2) (d : Fin 4) (h w : Fin 512)

/-- The volume itself. -/
theorem own : (V0 (Proc.devRef .tc main_arg0) : Vec Ideal S2x1x4x512x512 .f32) (ix5 b 0 d h w) = fld (input V0) b d h w := by
  unfold fld
  rw [dif_pos ⟨d.isLt, h.isLt, w.isLt⟩]
  rfl

/-- Places of the continued volume as places of the volume. -/
theorem back_one (n : ℕ) : 1 + n - 1 = n := by omega
theorem back_two (n : ℕ) : 2 + n - 1 = n + 1 := by omega
theorem plane_in : min d.val 3 = d.val := by have := d.isLt; omega
theorem plane_before : min (d.val - 1) 3 = d.val - 1 := by have := d.isLt; omega
theorem line_in : min h.val 511 = h.val := by have := h.isLt; omega
theorem line_before : min (h.val - 1) 511 = h.val - 1 := by have := h.isLt; omega

theorem pert_eq (r k : Fin 3) : (res_main_v65 V0 : Vec Ideal S3x3 .f32) (ix2 r k) = pert r k := rfl

/-- The entries of the first equation. -/
theorem entry₁u : val (res_main_v69 V0) (ix5 b 0 d h w) = (refRow₁ (fld (input V0) b) pert d h w).u := by
  unfold val res_main_v69 res_main_v35
  pointwise []
  simp only [edge, own, pert_eq, back_one, back_two, plane_in, plane_before, line_in, line_before]
  rfl
theorem entry₁v : val (res_main_v73 V0) (ix5 b 0 d h w) = (refRow₁ (fld (input V0) b) pert d h w).v := by
  unfold val res_main_v73 res_main_v53
  pointwise []
  simp only [edge, own, pert_eq, back_one, back_two, plane_in, plane_before, line_in, line_before]
  rfl
theorem entry₁w : val (res_main_v77 V0) (ix5 b 0 d h w) = (refRow₁ (fld (input V0) b) pert d h w).w := by
  unfold val res_main_v77 res_main_v62
  pointwise []
  simp only [edge, own, pert_eq, back_one, back_two, plane_in, plane_before, line_in, line_before]
  rfl
theorem entry₁r : val (res_main_v23 V0) (ix5 b 0 d h w) = (refRow₁ (fld (input V0) b) pert d h w).r := by
  unfold val res_main_v23
  pointwise []
  simp only [edge, own, pert_eq, back_one, back_two, plane_in, plane_before, line_in, line_before]
  rfl

/-- The entries of the second equation. -/
theorem entry₂u : val (res_main_v81 V0) (ix5 b 0 d h w) = (refRow₂ (fld (input V0) b) pert d h w).u := by
  unfold val res_main_v81 res_main_v53
  pointwise []
  simp only [edge, own, pert_eq, back_one, back_two, plane_in, plane_before, line_in, line_before]
  rfl
theorem entry₂v : val (res_main_v85 V0) (ix5 b 0 d h w) = (refRow₂ (fld (input V0) b) pert d h w).v := by
  unfold val res_main_v85
  pointwise []
  simp only [edge, own, pert_eq, back_one, back_two, plane_in, plane_before, line_in, line_before]
  rfl
theorem entry₂w : val (res_main_v89 V0) (ix5 b 0 d h w) = (refRow₂ (fld (input V0) b) pert d h w).w := by
  unfold val res_main_v89 res_main_v44
  pointwise []
  simp only [edge, own, pert_eq, back_one, back_two, plane_in, plane_before, line_in, line_before]
  rfl
theorem entry₂r : val (res_main_v18 V0) (ix5 b 0 d h w) = (refRow₂ (fld (input V0) b) pert d h w).r := by
  unfold val res_main_v18
  pointwise []
  simp only [edge, own, pert_eq, back_one, back_two, plane_in, plane_before, line_in, line_before]
  rfl

/-- The entries of the third equation. -/
theorem entry₃u : val (res_main_v93 V0) (ix5 b 0 d h w) = (refRow₃ (fld (input V0) b) pert d h w).u := by
  unfold val res_main_v93 res_main_v62
  pointwise []
  simp only [edge, own, pert_eq, back_one, back_two, plane_in, plane_before, line_in, line_before]
  rfl
theorem entry₃v : val (res_main_v97 V0) (ix5 b 0 d h w) = (refRow₃ (fld (input V0) b) pert d h w).v := by
  unfold val res_main_v97 res_main_v44
  pointwise []
  simp only [edge, own, pert_eq, back_one, back_two, plane_in, plane_before, line_in, line_before]
  rfl
theorem entry₃w : val (res_main_v101 V0) (ix5 b 0 d h w) = (refRow₃ (fld (input V0) b) pert d h w).w := by
  unfold val res_main_v101 res_main_v35
  pointwise []
  simp only [edge, own, pert_eq, back_one, back_two, plane_in, plane_before, line_in, line_before]
  rfl
theorem entry₃r : val (res_main_v13 V0) (ix5 b 0 d h w) = (refRow₃ (fld (input V0) b) pert d h w).r := by
  unfold val res_main_v13
  pointwise []
  simp only [edge, own, pert_eq, back_one, back_two, plane_in, plane_before, line_in, line_before]
  rfl

theorem eqn₁_eq : eqn₁ V0 (ix5 b 0 d h w) = refRow₁ (fld (input V0) b) pert d h w := by
  unfold eqn₁
  rw [entry₁u, entry₁v, entry₁w, entry₁r]

theorem eqn₂_eq : eqn₂ V0 (ix5 b 0 d h w) = refRow₂ (fld (input V0) b) pert d h w := by
  unfold eqn₂
  rw [entry₂u, entry₂v, entry₂w, entry₂r]

theorem eqn₃_eq : eqn₃ V0 (ix5 b 0 d h w) = refRow₃ (fld (input V0) b) pert d h w := by
  unfold eqn₃
  rw [entry₃u, entry₃v, entry₃w, entry₃r]

/-- The rows after the elimination, and the offsets. -/
theorem reduced_at : xclear₂ (after₄ V0 (ix5 b 0 d h w)) = refReduced (fld (input V0) b) pert d h w := by
  unfold refReduced
  rw [← reduced_eq, eqn₁_eq, eqn₂_eq, eqn₃_eq]

theorem step₁_at : val (res_main_v171 V0) (ix5 b 0 d h w) = -refS₁ (fld (input V0) b) pert d h w := by
  rw [step₁, reduced_at]; rfl
theorem step₂_at : val (res_main_v172 V0) (ix5 b 0 d h w) = -refS₂ (fld (input V0) b) pert d h w := by
  rw [step₂, reduced_at]; rfl
theorem step₃_at : val (res_main_v173 V0) (ix5 b 0 d h w) = -refS₃ (fld (input V0) b) pert d h w := by
  rw [step₃, reduced_at]; rfl

end Interp.Ref

end
-- ==== Proof.RefResults.lean ====
/- The reference's two results, read at one place. -/
module

public import proofs.«01_k».proof.Proof.RefRows

@[expose] public section

set_option maxRecDepth 16384

noncomputable section

namespace Interp

/-- Whether the reference takes the offset of a voxel. -/
def refTaken (V : Field) (p : Perturb) (d h w : ℕ) : BitVec 1 :=
  taken (Idealize.ShloMosaic.Ideal.cmp .ogt (V d h w) (neighbours (padded V) d h w)) (refS₁ V p d h w) (refS₂ V p d h w) (refS₃ V p d h w)

/-- The value the reference gives at a voxel. -/
def refY (V : Field) (p : Perturb) (d h w : ℕ) : EReal :=
  value (V d h w) (refRow₁ V p d h w).r (refRow₂ V p d h w).r (refRow₃ V p d h w).r
    (refTaken V p d h w) (refS₁ V p d h w) (refS₂ V p d h w) (refS₃ V p d h w)

/-- The coordinate number `k` the reference gives at a voxel. -/
def refC (V : Field) (p : Perturb) (k d h w : ℕ) : EReal :=
  if k = 0 then number d + moved (refTaken V p d h w) (refS₁ V p d h w)
  else if k = 1 then number h + moved (refTaken V p d h w) (refS₂ V p d h w)
  else number w + moved (refTaken V p d h w) (refS₃ V p d h w)

end Interp

namespace Interp.Ref

open Idealize.ShloMosaic Idealize.SL Cert.ReferenceIdeal Cert.ReferenceIdeal.Value Cert.ReferenceIdeal.Gen

variable (V0 : Valuation τ sig (Elt Ideal)) (b : Fin 2) (d : Fin 4) (h w : Fin 512)

/-- Places of the surrounded volume. -/
theorem by_one (n : ℕ) : 1 + n = n + 1 := by omega
theorem by_two (n : ℕ) : 2 + n = n + 2 := by omega

/-- The condition of the reference. -/
theorem taken_at : (res_main_v236 V0 : Vec Ideal S2x1x4x512x512 .i1) (ix5 b 0 d h w) = refTaken (fld (input V0) b) pert d h w := by
  have hd := d.isLt
  have hh := h.isLt
  have hw := w.isLt
  have s1 := step₁_at V0 b d h w
  have s2 := step₂_at V0 b d h w
  have s3 := step₃_at V0 b d h w
  unfold val at s1 s2 s3
  unfold res_main_v236
  pointwise []
  simp only [surrounded, own, by_one, by_two]
  rw [s1, s2, s3, ofBits_neg_inf]
  unfold refTaken taken neighbours
  rw [← mag_neg (refS₁ _ _ _ _ _), ← mag_neg (refS₂ _ _ _ _ _), ← mag_neg (refS₃ _ _ _ _ _)]
  rfl

/-- A condition read as a number. -/
theorem flag_uitofp (c : BitVec 1) : (((c.toNat : ℝ)) : EReal) = flag c := by
  have h : c = 0#1 ∨ c = 1#1 := by
    revert c; decide
  unfold flag
  rcases h with rfl | rfl <;> simp

theorem moved₁_at : val (res_main_v237 V0) (ix5 b 0 d h w)
    = moved (refTaken (fld (input V0) b) pert d h w) (refS₁ (fld (input V0) b) pert d h w) := by
  have s := step₁_at V0 b d h w
  unfold val at s ⊢
  unfold res_main_v237 moved
  rw [← taken_at, ← s, ← Ideal.ofBits_zero_f32]
  rfl
theorem moved₂_at : val (res_main_v238 V0) (ix5 b 0 d h w)
    = moved (refTaken (fld (input V0) b) pert d h w) (refS₂ (fld (input V0) b) pert d h w) := by
  have s := step₂_at V0 b d h w
  unfold val at s ⊢
  unfold res_main_v238 moved
  rw [← taken_at, ← s, ← Ideal.ofBits_zero_f32]
  rfl
theorem moved₃_at : val (res_main_v239 V0) (ix5 b 0 d h w)
    = moved (refTaken (fld (input V0) b) pert d h w) (refS₃ (fld (input V0) b) pert d h w) := by
  have s := step₃_at V0 b d h w
  unfold val at s ⊢
  unfold res_main_v239 moved
  rw [← taken_at, ← s, ← Ideal.ofBits_zero_f32]
  rfl

/-- The value the reference gives. -/
theorem value_at : (addf (addf (V0 (Proc.devRef .tc main_arg0)) (mulf (broadcastInDim S2x1x4x512x512 ![] bcast_S_S2x1x4x512x512 (constant S_ .f32 0x3F000000#32)) (addf (addf (mulf (res_main_v23 V0) (res_main_v237 V0)) (mulf (res_main_v18 V0) (res_main_v238 V0))) (mulf (res_main_v13 V0) (res_main_v239 V0))))) (mulf (broadcastInDim S2x1x4x512x512 ![] bcast_S_S2x1x4x512x512 (constant S_ .f32 0x41200000#32)) (uitofp .f32 (res_main_v236 V0))) : Vec Ideal S2x1x4x512x512 .f32) (ix5 b 0 d h w)
    = refY (fld (input V0) b) pert d h w := by
  have m1 := moved₁_at V0 b d h w
  have m2 := moved₂_at V0 b d h w
  have m3 := moved₃_at V0 b d h w
  have g1 := entry₁r V0 b d h w
  have g2 := entry₂r V0 b d h w
  have g3 := entry₃r V0 b d h w
  have t := taken_at V0 b d h w
  have x := own V0 b d h w
  unfold refY value
  rw [← m1, ← m2, ← m3, ← g1, ← g2, ← g3, ← x, ← t, ← flag_uitofp]
  unfold val
  rfl

/-- The coordinates the reference gives. -/
theorem coords_at (k : Fin 3) : ((addf (F := Ideal) (φ := .f32) ((concatenate S2x1x3x4x512x512 2 [⟨S2x1x1x4x512x512, ((broadcastInDim S2x1x1x4x512x512 ![0, 1, 3, 4, 5] bcast_S2x1x4x512x512_S2x1x1x4x512x512_0_1_3_4_5 (res_main_v237 V0)) : (⟨S2x1x1x4x512x512, .f32⟩ : BufTy).Contents (Elt Ideal))⟩, ⟨S2x1x1x4x512x512, ((broadcastInDim S2x1x1x4x512x512 ![0, 1, 3, 4, 5] bcast_S2x1x4x512x512_S2x1x1x4x512x512_0_1_3_4_5 (res_main_v238 V0)) : (⟨S2x1x1x4x512x512, .f32⟩ : BufTy).Contents (Elt Ideal))⟩, ⟨S2x1x1x4x512x512, ((broadcastInDim S2x1x1x4x512x512 ![0, 1, 3, 4, 5] bcast_S2x1x4x512x512_S2x1x1x4x512x512_0_1_3_4_5 (res_main_v239 V0)) : (⟨S2x1x1x4x512x512, .f32⟩ : BufTy).Contents (Elt Ideal))⟩] concatenates_S2x1x1x4x512x512_S2x1x1x4x512x512_S2x1x1x4x512x512_S2x1x3x4x512x512_d2 : (⟨S2x1x3x4x512x512, .f32⟩ : BufTy).Contents (Elt Ideal))) (broadcastInDim S2x1x3x4x512x512 ![0, 1, 2, 3, 4, 5] bcast_S1x1x3x4x512x512_S2x1x3x4x512x512_0_1_2_3_4_5 (broadcastInDim S1x1x3x4x512x512 ![2, 3, 4, 5] bcast_S3x4x512x512_S1x1x3x4x512x512_2_3_4_5 ((concatenate S3x4x512x512 0 [⟨S1x4x512x512, ((broadcastInDim S1x4x512x512 ![1, 2, 3] bcast_S4x512x512_S1x4x512x512_1_2_3 (broadcastInDim S4x512x512 ![0] bcast_S4_S4x512x512_0 (sitofp (F := Ideal) .f32 (iotaInDim S4 32 0)))) : (⟨S1x4x512x512, .f32⟩ : BufTy).Contents (Elt Ideal))⟩, ⟨S1x4x512x512, ((broadcastInDim S1x4x512x512 ![1, 2, 3] bcast_S4x512x512_S1x4x512x512_1_2_3 (broadcastInDim S4x512x512 ![1] bcast_S512_S4x512x512_1 (sitofp (F := Ideal) .f32 (iotaInDim S512 32 0)))) : (⟨S1x4x512x512, .f32⟩ : BufTy).Contents (Elt Ideal))⟩, ⟨S1x4x512x512, ((broadcastInDim S1x4x512x512 ![1, 2, 3] bcast_S4x512x512_S1x4x512x512_1_2_3 (broadcastInDim S4x512x512 ![2] bcast_S512_S4x512x512_2 (sitofp (F := Ideal) .f32 (iotaInDim S512 32 0)))) : (⟨S1x4x512x512, .f32⟩ : BufTy).Contents (Elt Ideal))⟩] concatenates_S1x4x512x512_S1x4x512x512_S1x4x512x512_S3x4x512x512_d0 : (⟨S3x4x512x512, .f32⟩ : BufTy).Contents (Elt Ideal)))))) : Vec Ideal S2x1x3x4x512x512 .f32) (ix6 b 0 k d h w)
    = refC (fld (input V0) b) pert k d h w := by
  have hd := d.isLt
  have hh := h.isLt
  have hw := w.isLt
  have m1 := moved₁_at V0 b d h w
  have m2 := moved₂_at V0 b d h w
  have m3 := moved₃_at V0 b d h w
  unfold refC
  rw [← m1, ← m2, ← m3, ← number_word (by omega), ← number_word (by omega), ← number_word (by omega)]
  unfold val
  generalize res_main_v237 V0 = x1
  generalize res_main_v238 V0 = x2
  generalize res_main_v239 V0 = x3
  pointwise []
  fin_cases k <;> exact add_comm _ _

end Interp.Ref

end
-- ==== Proof.Agree.lean ====
/- Where the volume is real, and the determinant is not zero or the voxel is no strict maximum, the kernel and the
   reference give the same results. -/
module

public import proofs.«01_k».proof.Proof.Arrays
public import proofs.«01_k».proof.Proof.RefResults

@[expose] public section

noncomputable section

namespace Interp

open Idealize.ShloMosaic

/-- The voxel's equations have one solution, or the voxel is no strict maximum and the solution is not used. -/
def Solvable (V : Field) (p : Perturb) (d h w : ℕ) : Prop :=
  refDet V p d h w ≠ 0 ∨ Ideal.cmp .ogt (V d h w) (neighbours (padded V) d h w) = 0#1

theorem taken_none (s₁ s₂ s₃ : EReal) : taken 0#1 s₁ s₂ s₃ = 0#1 := by
  unfold taken
  generalize Ideal.cmp .olt _ _ = c
  revert c; decide

/-- An offset that is not taken is zero. -/
theorem moved_none (s : EReal) : moved 0#1 s = 0 := rfl

variable {V : Field} {p : Perturb} (hV : Finite V) (hp : FiniteP p) {d h w : ℕ} (hs : Solvable V p d h w)

include hV hp hs

/-- The same voxels are taken, -/
theorem taken_agree : kernelTaken V p d h w = refTaken V p d h w := by
  unfold kernelTaken refTaken
  rcases hs with hdet | hn
  · obtain ⟨e₁, e₂, e₃⟩ := offsets_eq hV hp hdet
    rw [e₁, e₂, e₃]
  · rw [hn, taken_none, taken_none]

/-- by the same offsets, -/
theorem moved_agree :
    moved (kernelTaken V p d h w) (kernelS₁ V p d h w) = moved (refTaken V p d h w) (refS₁ V p d h w)
    ∧ moved (kernelTaken V p d h w) (kernelS₂ V p d h w) = moved (refTaken V p d h w) (refS₂ V p d h w)
    ∧ moved (kernelTaken V p d h w) (kernelS₃ V p d h w) = moved (refTaken V p d h w) (refS₃ V p d h w) := by
  rw [taken_agree hV hp hs]
  rcases hs with hdet | hn
  · obtain ⟨e₁, e₂, e₃⟩ := offsets_eq hV hp hdet
    rw [e₁, e₂, e₃]
    exact ⟨rfl, rfl, rfl⟩
  · unfold refTaken
    rw [hn, taken_none]
    exact ⟨rfl, rfl, rfl⟩

/-- the values are the same, -/
theorem value_agree : kernelY V p d h w = refY V p d h w := by
  obtain ⟨e₁, e₂, e₃⟩ := moved_agree hV hp hs
  unfold kernelY refY value
  rw [e₁, e₂, e₃, taken_agree hV hp hs]
  rfl

/-- and the coordinates. -/
theorem coords_agree (k : ℕ) : kernelC V p k d h w = refC V p k d h w := by
  obtain ⟨e₁, e₂, e₃⟩ := moved_agree hV hp hs
  unfold kernelC refC
  rw [e₁, e₂, e₃]

end Interp

end
-- ==== Proof.Regular.lean ====
/- The precondition, read at one voxel: the volume's value is a real number, and where the voxel is a strict
   maximum the determinant of its equations is not zero. -/
module

public import proofs.«01_k».proof.Proof.Agree
public import proofs.«01_k».proof.Proof.Gen.Pre_regular
public import proofs.«01_k».proof.Proof.Gen.ReferenceIdeal

@[expose] public section

set_option maxRecDepth 16384

noncomputable section

namespace Interp.Ref

open Idealize.ShloMosaic Idealize.SL Cert.ReferenceIdeal Cert.ReferenceIdeal.Value Cert.ReferenceIdeal.Gen

variable (V0 : Valuation τ sig (Elt Ideal))

/-- The greatest of the twenty-six neighbours, over the whole surrounded volume. -/
def greatest (P : FVec Ideal S2x1x6x514x514 .f32) : FVec Ideal S2x1x4x512x512 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (broadcastInDim S2x1x4x512x512 ![] bcast_S_S2x1x4x512x512 (constant S_ .f32 0xFF800000#32))
    (extractStridedSlice S2x1x4x512x512 ![0, 0, 0, 0, 0] P slices_S2x1x6x514x514_S2x1x4x512x512_0_0_0_0_0))
    (extractStridedSlice S2x1x4x512x512 ![0, 0, 0, 0, 1] P slices_S2x1x6x514x514_S2x1x4x512x512_0_0_0_0_1))
    (extractStridedSlice S2x1x4x512x512 ![0, 0, 0, 0, 2] P slices_S2x1x6x514x514_S2x1x4x512x512_0_0_0_0_2))
    (extractStridedSlice S2x1x4x512x512 ![0, 0, 0, 1, 0] P slices_S2x1x6x514x514_S2x1x4x512x512_0_0_0_1_0))
    (extractStridedSlice S2x1x4x512x512 ![0, 0, 0, 1, 1] P slices_S2x1x6x514x514_S2x1x4x512x512_0_0_0_1_1))
    (extractStridedSlice S2x1x4x512x512 ![0, 0, 0, 1, 2] P slices_S2x1x6x514x514_S2x1x4x512x512_0_0_0_1_2))
    (extractStridedSlice S2x1x4x512x512 ![0, 0, 0, 2, 0] P slices_S2x1x6x514x514_S2x1x4x512x512_0_0_0_2_0))
    (extractStridedSlice S2x1x4x512x512 ![0, 0, 0, 2, 1] P slices_S2x1x6x514x514_S2x1x4x512x512_0_0_0_2_1))
    (extractStridedSlice S2x1x4x512x512 ![0, 0, 0, 2, 2] P slices_S2x1x6x514x514_S2x1x4x512x512_0_0_0_2_2))
    (extractStridedSlice S2x1x4x512x512 ![0, 0, 1, 0, 0] P slices_S2x1x6x514x514_S2x1x4x512x512_0_0_1_0_0))
    (extractStridedSlice S2x1x4x512x512 ![0, 0, 1, 0, 1] P slices_S2x1x6x514x514_S2x1x4x512x512_0_0_1_0_1))
    (extractStridedSlice S2x1x4x512x512 ![0, 0, 1, 0, 2] P slices_S2x1x6x514x514_S2x1x4x512x512_0_0_1_0_2))
    (extractStridedSlice S2x1x4x512x512 ![0, 0, 1, 1, 0] P slices_S2x1x6x514x514_S2x1x4x512x512_0_0_1_1_0))
    (extractStridedSlice S2x1x4x512x512 ![0, 0, 1, 1, 2] P slices_S2x1x6x514x514_S2x1x4x512x512_0_0_1_1_2))
    (extractStridedSlice S2x1x4x512x512 ![0, 0, 1, 2, 0] P slices_S2x1x6x514x514_S2x1x4x512x512_0_0_1_2_0))
    (extractStridedSlice S2x1x4x512x512 ![0, 0, 1, 2, 1] P slices_S2x1x6x514x514_S2x1x4x512x512_0_0_1_2_1))
    (extractStridedSlice S2x1x4x512x512 ![0, 0, 1, 2, 2] P slices_S2x1x6x514x514_S2x1x4x512x512_0_0_1_2_2))
    (extractStridedSlice S2x1x4x512x512 ![0, 0, 2, 0, 0] P slices_S2x1x6x514x514_S2x1x4x512x512_0_0_2_0_0))
    (extractStridedSlice S2x1x4x512x512 ![0, 0, 2, 0, 1] P slices_S2x1x6x514x514_S2x1x4x512x512_0_0_2_0_1))
    (extractStridedSlice S2x1x4x512x512 ![0, 0, 2, 0, 2] P slices_S2x1x6x514x514_S2x1x4x512x512_0_0_2_0_2))
    (extractStridedSlice S2x1x4x512x512 ![0, 0, 2, 1, 0] P slices_S2x1x6x514x514_S2x1x4x512x512_0_0_2_1_0))
    (extractStridedSlice S2x1x4x512x512 ![0, 0, 2, 1, 1] P slices_S2x1x6x514x514_S2x1x4x512x512_0_0_2_1_1))
    (extractStridedSlice S2x1x4x512x512 ![0, 0, 2, 1, 2] P slices_S2x1x6x514x514_S2x1x4x512x512_0_0_2_1_2))
    (extractStridedSlice S2x1x4x512x512 ![0, 0, 2, 2, 0] P slices_S2x1x6x514x514_S2x1x4x512x512_0_0_2_2_0))
    (extractStridedSlice S2x1x4x512x512 ![0, 0, 2, 2, 1] P slices_S2x1x6x514x514_S2x1x4x512x512_0_0_2_2_1))
    (extractStridedSlice S2x1x4x512x512 ![0, 0, 2, 2, 2] P slices_S2x1x6x514x514_S2x1x4x512x512_0_0_2_2_2)

/-- At a voxel it is the greatest of the voxel's neighbours. -/
theorem greatest_at (b : Fin 2) (d : Fin 4) (h w : Fin 512) :
    greatest (res_main_v179 V0) (ix5 b 0 d h w) = neighbours (padded (fld (input V0) b)) d h w := by
  have hd := d.isLt
  have hh := h.isLt
  have hw := w.isLt
  unfold greatest
  pointwise []
  simp only [surrounded, by_one, by_two]
  rw [ofBits_neg_inf]
  unfold neighbours
  rfl

/-- The two arrays of the precondition. -/
theorem regular_parts : Cert.Pre_regular.fn (F := Ideal) (input V0) =
    (cmpf (F := Ideal) (φ := .f32) .olt (Host.absf (input V0)) (broadcastInDim S2x1x4x512x512 ![] bcast_S_S2x1x4x512x512 (constant S_ .f32 0x7F800000#32)),
     ori (cmpf (F := Ideal) (φ := .f32) .une
      (addf (F := Ideal) (φ := .f32)
        (subf (F := Ideal) (φ := .f32)
          (mulf (F := Ideal) (φ := .f32) (res_main_v69 V0) (subf (F := Ideal) (φ := .f32)
            (mulf (F := Ideal) (φ := .f32) (res_main_v85 V0) (res_main_v101 V0)) (mulf (F := Ideal) (φ := .f32) (res_main_v89 V0) (res_main_v97 V0))))
          (mulf (F := Ideal) (φ := .f32) (res_main_v73 V0) (subf (F := Ideal) (φ := .f32)
            (mulf (F := Ideal) (φ := .f32) (res_main_v81 V0) (res_main_v101 V0)) (mulf (F := Ideal) (φ := .f32) (res_main_v89 V0) (res_main_v93 V0)))))
        (mulf (F := Ideal) (φ := .f32) (res_main_v77 V0) (subf (F := Ideal) (φ := .f32)
          (mulf (F := Ideal) (φ := .f32) (res_main_v81 V0) (res_main_v97 V0)) (mulf (F := Ideal) (φ := .f32) (res_main_v85 V0) (res_main_v93 V0)))))
      (broadcastInDim S2x1x4x512x512 ![] bcast_S_S2x1x4x512x512 (constant S_ .f32 0x00000000#32)))
      (noti (cmpf (F := Ideal) (φ := .f32) .ogt (input V0) (greatest (res_main_v179 V0))))) := by
  unfold Cert.Pre_regular.fn Cert.Pre_regular.fn_part1 Cert.Pre_regular.fn_part2 Cert.Pre_regular.fn_part3 Cert.Pre_regular.fn_part4 Cert.Pre_regular.fn_part5
    Cert.Pre_regular.fn_part6 Cert.Pre_regular.fn_part7
  rfl

theorem ofBits_inf : Ideal.ofBits .f32 0x7F800000#32 = ⊤ := by
  simp [Ideal.ofBits, Ideal.ieee]

/-- A value whose size is below infinity is a real number. -/
theorem real_of_mag_lt {x : EReal} (h : mag x < ⊤) : x = (x.toReal : EReal) := by
  refine (EReal.coe_toReal ?_ ?_).symm
  · rintro rfl
    unfold mag at h
    exact absurd h (by simp)
  · rintro rfl
    unfold mag at h
    exact absurd h (by simp)

/-- Under the precondition the volume's values are real numbers, -/
theorem regular_finite (hp : (Cert.Pre_regular.fn (F := Ideal) (input V0)).1 = fun _ => 1#1) (b : Fin 2) : Finite (fld (input V0) b) := by
  rw [regular_parts] at hp
  have key : ∀ y, mag (input V0 y) < ⊤ := by
    intro y
    have e : Ideal.cmp .olt (mag (input V0 y)) (Ideal.ofBits .f32 0x7F800000#32) = 1#1 := congrFun hp y
    rw [ofBits_inf] at e
    by_contra n
    unfold Ideal.cmp at e
    simp [n] at e
  refine ⟨fun d h w => (fld (input V0) b d h w).toReal, funext fun d => funext fun h => funext fun w => ?_⟩
  refine real_of_mag_lt ?_
  unfold fld
  split
  · exact key _
  · unfold mag; simp

/-- One of two bits is set where their disjunction is. -/
theorem set_of_or (p q : BitVec 1) (h : IntOp.ori p (~~~q) = 1#1) : p = 1#1 ∨ q = 0#1 := by
  revert p q; decide

/-- and at each strict maximum the determinant of the voxel's equations is not zero. -/
theorem regular_det (hp : (Cert.Pre_regular.fn (F := Ideal) (input V0)).2 = fun _ => 1#1) (b : Fin 2) (d : Fin 4) (h w : Fin 512) :
    Solvable (fld (input V0) b) pert d h w := by
  rw [regular_parts] at hp
  have e := congrFun hp (ix5 b 0 d h w)
  have own' := own V0 b d h w
  rcases set_of_or _ _ e with e | e
  · refine Or.inl ?_
    unfold refDet
    dsimp only
    rw [← entry₁u, ← entry₁v, ← entry₁w, ← entry₂u, ← entry₂v, ← entry₂w, ← entry₃u, ← entry₃v, ← entry₃w]
    intro n
    have e2 : Ideal.cmp .une (0 : EReal) (Ideal.ofBits .f32 0x00000000#32) = 1#1 := by
      rw [← n]
      exact e
    rw [Ideal.ofBits_zero_f32] at e2
    unfold Ideal.cmp at e2
    simp at e2
  · refine Or.inr ?_
    rw [← greatest_at, ← own']
    exact e

/-- A pattern whose exponent is not all ones is a real number. -/
theorem real_of_bits (b : BitVec 32) (h : (b.extractLsb' 23 8).toNat ≠ 2 ^ 8 - 1) : ∃ x : ℝ, Ideal.ofBits .f32 b = (x : EReal) := by
  show ∃ x : ℝ, Ideal.ieee 8 23 b = (x : EReal)
  unfold Ideal.ieee
  dsimp only
  rw [if_neg h]
  split
  · exact ⟨_, rfl⟩
  · exact ⟨_, rfl⟩

theorem table_real : ∀ i : Fin 9, ((Cert.KernelIdeal.lit0 i).extractLsb' 23 8).toNat ≠ 2 ^ 8 - 1 := by
  decide

/-- The perturbation is made of real numbers. -/
theorem pert_finite : FiniteP pert := by
  have key : ∀ r k : Fin 3, ∃ x : ℝ, pert r k = (x : EReal) := by
    intro r k
    obtain ⟨x, hx⟩ := real_of_bits _ (table_real (Cert.KernelIdeal.S3x3.rowMajor (ix2 r k)))
    obtain ⟨z, hz⟩ := real_of_bits 0x33D6BF95#32 (by decide)
    refine ⟨|x| * z, ?_⟩
    unfold pert
    rw [hx, hz, mag_coe, ← EReal.coe_mul]
  choose P hP using key
  exact ⟨P, funext fun r => funext fun k => hP r k⟩

end Interp.Ref

end
-- ==== Proof.RefRun.lean ====
/- The reference's run: its two results entry by entry, and its argument as it was. -/
module

public import proofs.«01_k».proof.Proof.RefResults
public import proofs.«01_k».proof.Proof.Regular

@[expose] public section

set_option maxRecDepth 16384

noncomputable section

namespace Interp

open Idealize.ShloMosaic Idealize.SL.Sem

/-- An array of coordinates given entry by entry. -/
def sixth (f : Fin 2 → Fin 3 → Fin 4 → Fin 512 → Fin 512 → EReal) : Vec Ideal Cert.ReferenceIdeal.S2x1x3x4x512x512 .f32 :=
  fun i => f (i 0) (i 2) (i 3) (i 4) (i 5)

/-- An array of values given entry by entry. -/
def fifth (f : Fin 2 → Fin 4 → Fin 512 → Fin 512 → EReal) : Vec Ideal Cert.ReferenceIdeal.S2x1x4x512x512 .f32 :=
  fun i => f (i 0) (i 2) (i 3) (i 4)

/-- Arrays with these entries are these arrays. -/
theorem sixth_eq {A : Vec Ideal Cert.ReferenceIdeal.S2x1x3x4x512x512 .f32} {f : Fin 2 → Fin 3 → Fin 4 → Fin 512 → Fin 512 → EReal}
    (e : ∀ b k d h w, A (ix6 b 0 k d h w) = f b k d h w) : A = sixth f := by
  funext i
  have h1 : (i 1).val = 0 := by have h := (i 1).isLt; change _ < 1 at h; omega
  have ei : i = ix6 (i 0) 0 (i 2) (i 3) (i 4) (i 5) := by
    refine funext fun a => Fin.ext ?_
    fin_cases a
    · rfl
    · exact h1
    all_goals rfl
  exact (congrArg A ei).trans (e (i 0) (i 2) (i 3) (i 4) (i 5))

theorem fifth_eq {A : Vec Ideal Cert.ReferenceIdeal.S2x1x4x512x512 .f32} {f : Fin 2 → Fin 4 → Fin 512 → Fin 512 → EReal}
    (e : ∀ b d h w, A (ix5 b 0 d h w) = f b d h w) : A = fifth f := by
  funext i
  have h1 : (i 1).val = 0 := by have h := (i 1).isLt; change _ < 1 at h; omega
  have ei : i = ix5 (i 0) 0 (i 2) (i 3) (i 4) := by
    refine funext fun a => Fin.ext ?_
    fin_cases a
    · rfl
    · exact h1
    all_goals rfl
  exact (congrArg A ei).trans (e (i 0) (i 2) (i 3) (i 4))

/-- The two results of the reference on given volumes. -/
def refCoords (x : Vec Ideal Cert.ReferenceIdeal.S2x1x4x512x512 .f32) : Vec Ideal Cert.ReferenceIdeal.S2x1x3x4x512x512 .f32 :=
  sixth fun b k d h w => refC (fld x b) pert k d h w
def refValues (x : Vec Ideal Cert.ReferenceIdeal.S2x1x4x512x512 .f32) : Vec Ideal Cert.ReferenceIdeal.S2x1x4x512x512 .f32 :=
  fifth fun b d h w => refY (fld x b) pert d h w

namespace Ref

open Cert.ReferenceIdeal Cert.ReferenceIdeal.Value Cert.ReferenceIdeal.Gen

/-- The run. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v268) = refCoords (m ((c.tc : Thread nD τ).loc main_arg0))
      ∧ r.2.mem ((c.tc : Thread nD τ).loc main_v251) = refValues (m ((c.tc : Thread nD τ).loc main_arg0))
      ∧ r.2.mem ((c.tc : Thread nD τ).loc main_arg0) = m ((c.tc : Thread nD τ).loc main_arg0) :=
  (θ_run defs _ _).mono (fun r h c => by
    refine ⟨(h c).1.trans ?_, (h c).2.1.trans ?_, (h c).2.2⟩
    · refine sixth_eq fun b k d h w => ?_
      exact coords_at (StableHlo.launchContents m c) b d h w k
    · refine fifth_eq fun b d h w => ?_
      exact value_at (StableHlo.launchContents m c) b d h w)
    (Cert.ReferenceIdeal.Value.run (F := Ideal) m ρ)

end Ref

end Interp

end
-- ==== Proof.Whole.lean ====
/- The kernel and the reference give the same two results. -/
module

public import proofs.«01_k».proof.Proof.KernelRun
public import proofs.«01_k».proof.Proof.RefRun
public import proofs.«01_k».proof.Proof.Agree
public import proofs.«01_k».proof.Defs

@[expose] public section

noncomputable section

namespace Interp

open Idealize.ShloMosaic Idealize.SL.Sem

/-- What the precondition says of the volumes a device is given. -/
theorem regular_read {x : Vec Ideal Cert.ReferenceIdeal.S2x1x4x512x512 .f32} {V0 : Valuation Cert.ReferenceIdeal.τ Cert.ReferenceIdeal.sig (Elt Ideal)}
    (e : Ref.input V0 = x) (h : (Cert.Pre_regular.fn (F := Ideal) x).1 = (fun _ => 1#1) ∧ (Cert.Pre_regular.fn (F := Ideal) x).2 = (fun _ => 1#1)) (b : Fin 2) :
    Finite (fld x b) ∧ ∀ (d : Fin 4) (h w : Fin 512), Solvable (fld x b) pert d h w := by
  subst e
  exact ⟨Ref.regular_finite V0 h.1 b, Ref.regular_det V0 h.2 b⟩

/-- The run of the kernel, in the terms of the reference: under the precondition its results are the reference's. -/
theorem kernel_as_reference (m : (ℓ : Loc Cert.KernelIdeal.nD Cert.KernelIdeal.τ Cert.KernelIdeal.sig) → Buf (Elt Ideal) ℓ)
    (g : Dev Cert.KernelIdeal.nD → PrngReg)
    (hread : ∀ c b, Finite (fld (arg m c) b) ∧ ∀ (d : Fin 4) (h w : Fin 512), Solvable (fld (arg m c) b) pert d h w) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v15) = refCoords (arg m c)
      ∧ r.2.mem ((c.tc : Thread Cert.KernelIdeal.nD Cert.KernelIdeal.τ).loc Cert.KernelIdeal.main_v16) = refValues (arg m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun r h c => by
    obtain ⟨h15, h16⟩ := h.1 c
    refine ⟨?_, ?_, h.2 c⟩
    · refine sixth_eq fun b k d h w => ?_
      obtain ⟨hV, hs⟩ := hread c b
      exact (h15 b k d h w).trans (coords_agree hV Ref.pert_finite (hs d h w) k)
    · refine fifth_eq fun b d h w => ?_
      obtain ⟨hV, hs⟩ := hread c b
      exact (h16 b d h w).trans (value_agree hV Ref.pert_finite (hs d h w)))
    (θ_run_and (kernel_run m g) (Cert.KernelIdeal.Gen.unchanged m g))

/-- Both programs run and end with the same results. -/
theorem same_results : Cert.algebraic_KernelIdeal_ReferenceIdeal_pre_regular := by
  intro m g m' g' hpre hargs
  have hread : ∀ c b, Finite (fld (arg m c) b) ∧ ∀ (d : Fin 4) (h w : Fin 512), Solvable (fld (arg m c) b) pert d h w := fun c b =>
    regular_read (V0 := StableHlo.launchContents m' c) (hargs c) (hpre c) b
  refine ⟨fun c => refCoords (arg m c), fun c => refValues (arg m c), kernel_as_reference m g hread, ?_⟩
  refine (θ_run Cert.ReferenceIdeal.defs _ _).mono (fun r h c => ?_) (Ref.reference_run m' g')
  obtain ⟨h1, h2, h3⟩ := h c
  exact ⟨h1.trans (congrArg refCoords (hargs c)), h2.trans (congrArg refValues (hargs c)), h3⟩

end Interp

end
-- ==== Proof.lean ====
/- The frames of the kernel, of its idealization and of the reference, and the equality of the idealized kernel's two
   results with the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_regular
public import proofs.«01_k».proof.Proof.Whole
public import Idealize.ShloMosaic.Adequacy
public import Idealize.ShloMosaic.Init

@[expose] public section

noncomputable section

namespace Cert.Proof

open Idealize.ShloMosaic Idealize.SL.Sem

/-- The kernel runs to its end, leaves its argument unchanged and ends with every semaphore at zero. -/
theorem frame_kernel : Cert.quiescent_Kernel := fun m ρ _ => Cert.Kernel.Gen.frame m ρ

/-- The idealized kernel runs to its end, leaves its argument unchanged and ends with every semaphore at zero. -/
theorem frame_kernelIdeal : Cert.quiescent_KernelIdeal := fun m ρ _ => Cert.KernelIdeal.Gen.frame m ρ

/-- The same at the arguments of the value claim. -/
theorem frame_kernelIdeal_regular : Cert.quiescent_KernelIdeal_pre_regular := fun m ρ _ => Cert.KernelIdeal.Gen.frame m ρ

/-- The idealized reference runs to its end and leaves its argument unchanged; it declares no semaphore. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The same at the arguments of the value claim. -/
theorem frame_referenceIdeal_regular : Cert.quiescent_ReferenceIdeal_pre_regular := fun m ρ _ => frame_referenceIdeal m ρ trivial

/-- The claims together; the idealization rewrote no operation. -/
theorem claim : Cert.Claim := ⟨Cert.Kernel.Gen.facts, Cert.KernelIdeal.Gen.facts, Cert.ReferenceIdeal.Gen.facts, Cert.Pre_regular.Gen.facts,
  frame_kernel, frame_kernelIdeal, frame_kernelIdeal_regular, frame_referenceIdeal, frame_referenceIdeal_regular, trivial, Interp.same_results⟩

end Cert.Proof

end
